-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S2048x1 : Shape := ⟨2, ![2048, 1]⟩
abbrev S_ : Shape := ⟨0, ![]⟩
abbrev S8 : Shape := ⟨1, ![8]⟩
abbrev S1x8 : Shape := ⟨2, ![1, 8]⟩
abbrev S2048x8 : Shape := ⟨2, ![2048, 8]⟩
abbrev S8x256x8 : Shape := ⟨3, ![8, 256, 8]⟩
abbrev S8x8 : Shape := ⟨2, ![8, 8]⟩

class Facts : Prop where
  slices_S2048x2_S2048x1_0_0 : S2048x2.Slices ![0, 0] S2048x1
  bcast_S_S2048x1 : S_.BroadcastsInDim S2048x1 (![] : Fin 0 → Fin S2048x1.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  slices_S2048x2_S2048x1_0_1 : S2048x2.Slices ![0, 1] S2048x1
  shapeCasts_S2048x8_S8x256x8 : S2048x8.ShapeCasts S8x256x8
  natLt_1_32 : 1 < 32
  reducesTo_S8x256x8_S8x8_d1 : S8x256x8.ReducesTo [1] S8x8
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x64 : S_.BroadcastsInDim S512x64 (![] : Fin 0 → Fin S512x64.rank)
  reducesTo_S512x64_S_d0_1 : S512x64.ReducesTo [0, 1] S_
  bcast_S_S2048x2 : S_.BroadcastsInDim S2048x2 (![] : Fin 0 → Fin S2048x2.rank)
  reducesTo_S2048x2_S_d0_1 : S2048x2.ReducesTo [0, 1] S_
  bcast_S_S8x8 : S_.BroadcastsInDim S8x8 (![] : Fin 0 → Fin S8x8.rank)
  reducesTo_S8x8_S_d0_1 : S8x8.ReducesTo [0, 1] S_

variable [Facts]

def fn_where {F : FTy → Type} [FloatOps F] (arg0 : IVec S2048x1 1) (arg1 : IVec S2048x1 32) (arg2 : IVec S2048x1 32) : IVec S2048x1 32 :=
  let v0 : IVec S2048x1 32 := select arg0 arg1 arg2
  v0

def fn_floor_divide {F : FTy → Type} [FloatOps F] (arg0 : IVec S2048x1 32) (arg1 : IVec S_ 32) : IVec S2048x1 32 :=
  let v0 : IVec S_ 32 := id arg1
  let v1 : IVec S2048x1 32 := broadcastInDim S2048x1 ![] bcast_S_S2048x1 v0
  let v2 : IVec S2048x1 32 := Host.divsi arg0 v1
  let v3 : IVec S2048x1 32 := signi arg0
  let v4 : IVec S_ 32 := signi v0
  let v5 : IVec S2048x1 32 := broadcastInDim S2048x1 ![] bcast_S_S2048x1 v4
  let v6 : IVec S2048x1 1 := cmpi .ne v3 v5
  let v7 : IVec S2048x1 32 := broadcastInDim S2048x1 ![] bcast_S_S2048x1 v0
  let v8 : IVec S2048x1 32 := Host.remsi arg0 v7
  let c : IVec S_ 32 := constantI S_ 32 0#32
  let v9 : IVec S2048x1 32 := broadcastInDim S2048x1 ![] bcast_S_S2048x1 c
  let v10 : IVec S2048x1 1 := cmpi .ne v8 v9
  let v11 : IVec S2048x1 1 := andi v6 v10
  let c_0 : IVec S_ 32 := constantI S_ 32 1#32
  let v12 : IVec S2048x1 32 := broadcastInDim S2048x1 ![] bcast_S_S2048x1 c_0
  let v13 : IVec S2048x1 32 := subi v2 v12
  let v14 : IVec S2048x1 32 := fn_where (F := F) v11 v13 v2
  v14

def fn_part2 {F : FTy → Type} [FloatOps F] (main_v33 : IVec S_ 1) (main_v35 : IVec S8x8 1) (main_c_9 : IVec S_ 1) : IVec S_ 1 :=
  let main_v36 : IVec S_ 1 := (fun x v => Host.reduce IntOp.andi x v reducesTo_S8x8_S_d0_1 h_S_) main_v35 main_c_9
  let main_v37 : IVec S_ 1 := andi main_v33 main_v36
  main_v37

def fn_part1 {F : FTy → Type} [FloatOps F] (main_arg1 : FVec F S512x64 .f32) (main_arg2 : IVec S2048x2 32) (main_v17 : IVec S8x8 32) (main_v18 : FVec F S2048x512 .f32) (main_v19 : FVec F S2048x512 .f32) : IVec S_ 1 :=
  let main_v20 : IVec S2048x512 1 := cmpf .olt main_v18 main_v19
  let main_c_2 : IVec S_ 1 := constantI S_ 1 1#1
  let main_v21 : IVec S_ 1 := (fun x v => Host.reduce IntOp.andi x v reducesTo_S2048x512_S_d0_1 h_S_) main_v20 main_c_2
  let main_v22 : FVec F S512x64 .f32 := Host.absf main_arg1
  let main_cst_3 : FVec F S_ .f32 := constant S_ .f32 0x7F800000#32
  let main_v23 : FVec F S512x64 .f32 := broadcastInDim S512x64 ![] bcast_S_S512x64 main_cst_3
  let main_v24 : IVec S512x64 1 := cmpf .olt main_v22 main_v23
  let main_c_4 : IVec S_ 1 := constantI S_ 1 1#1
  let main_v25 : IVec S_ 1 := (fun x v => Host.reduce IntOp.andi x v reducesTo_S512x64_S_d0_1 h_S_) main_v24 main_c_4
  let main_v26 : IVec S_ 1 := andi main_v21 main_v25
  let main_c_5 : IVec S_ 32 := constantI S_ 32 0#32
  let main_v27 : IVec S2048x2 32 := broadcastInDim S2048x2 ![] bcast_S_S2048x2 main_c_5
  let main_v28 : IVec S2048x2 1 := cmpi .sge main_arg2 main_v27
  let main_c_6 : IVec S_ 32 := constantI S_ 32 64#32
  let main_v29 : IVec S2048x2 32 := broadcastInDim S2048x2 ![] bcast_S_S2048x2 main_c_6
  let main_v30 : IVec S2048x2 1 := cmpi .slt main_arg2 main_v29
  let main_v31 : IVec S2048x2 1 := andi main_v28 main_v30
  let main_c_7 : IVec S_ 1 := constantI S_ 1 1#1
  let main_v32 : IVec S_ 1 := (fun x v => Host.reduce IntOp.andi x v reducesTo_S2048x2_S_d0_1 h_S_) main_v31 main_c_7
  let main_v33 : IVec S_ 1 := andi main_v26 main_v32
  let main_c_8 : IVec S_ 32 := constantI S_ 32 128#32
  let main_v34 : IVec S8x8 32 := broadcastInDim S8x8 ![] bcast_S_S8x8 main_c_8
  let main_v35 : IVec S8x8 1 := cmpi .sle main_v17 main_v34
  let main_c_9 : IVec S_ 1 := constantI S_ 1 1#1
  fn_part2 (F := F) main_v33 main_v35 main_c_9

def fn {F : FTy → Type} [FloatOps F] (main_arg0 : FVec F S2048x512 .f32) (main_arg1 : FVec F S512x64 .f32) (main_arg2 : IVec S2048x2 32) (main_arg3 : FVec F S8x512x1024 .f32) : IVec S_ 1 :=
  let main_v0 : IVec S2048x1 32 := (extractStridedSlice S2048x1 ![0, 0] · slices_S2048x2_S2048x1_0_0) main_arg2
  let main_c : IVec S_ 32 := constantI S_ 32 8#32
  let main_v1 : IVec S2048x1 32 := fn_floor_divide (F := F) main_v0 main_c
  let main_v2 : IVec S8 32 := iotaInDim S8 32 0
  let main_v3 : IVec S1x8 32 := broadcastInDim S1x8 ![1] bcast_S8_S1x8_1 main_v2
  let main_v4 : IVec S2048x8 32 := broadcastInDim S2048x8 ![0, 1] bcast_S2048x1_S2048x8_0_1 main_v1
  let main_v5 : IVec S2048x8 32 := broadcastInDim S2048x8 ![0, 1] bcast_S1x8_S2048x8_0_1 main_v3
  let main_v6 : IVec S2048x8 1 := cmpi .eq main_v4 main_v5
  let main_v7 : IVec S2048x1 32 := (extractStridedSlice S2048x1 ![0, 1] · slices_S2048x2_S2048x1_0_1) main_arg2
  let main_c_0 : IVec S_ 32 := constantI S_ 32 8#32
  let main_v8 : IVec S2048x1 32 := fn_floor_divide (F := F) main_v7 main_c_0
  let main_v9 : IVec S8 32 := iotaInDim S8 32 0
  let main_v10 : IVec S1x8 32 := broadcastInDim S1x8 ![1] bcast_S8_S1x8_1 main_v9
  let main_v11 : IVec S2048x8 32 := broadcastInDim S2048x8 ![0, 1] bcast_S2048x1_S2048x8_0_1 main_v8
  let main_v12 : IVec S2048x8 32 := broadcastInDim S2048x8 ![0, 1] bcast_S1x8_S2048x8_0_1 main_v10
  let main_v13 : IVec S2048x8 1 := cmpi .eq main_v11 main_v12
  let main_v14 : IVec S2048x8 1 := ori main_v6 main_v13
  let main_v15 : IVec S8x256x8 1 := shapeCast S8x256x8 main_v14 shapeCasts_S2048x8_S8x256x8
  let main_v16 : IVec S8x256x8 32 := (extui 32 · natLt_1_32) main_v15
  let main_c_1 : IVec S_ 32 := constantI S_ 32 0#32
  let main_v17 : IVec S8x8 32 := (fun x v => Host.reduce IntOp.addi x v reducesTo_S8x256x8_S8x8_d1 h_S_) main_v16 main_c_1
  let main_v18 : FVec F S2048x512 .f32 := Host.absf main_arg0
  let main_cst : FVec F S_ .f32 := constant S_ .f32 0x7F800000#32
  let main_v19 : FVec F S2048x512 .f32 := broadcastInDim S2048x512 ![] bcast_S_S2048x512 main_cst
  fn_part1 (F := F) main_arg1 main_arg2 main_v17 main_v18 main_v19
-- ==== Pre_routable_ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S2048x1 : Shape := ⟨2, ![2048, 1]⟩
abbrev S_ : Shape := ⟨0, ![]⟩
abbrev S8 : Shape := ⟨1, ![8]⟩
abbrev S1x8 : Shape := ⟨2, ![1, 8]⟩
abbrev S2048x8 : Shape := ⟨2, ![2048, 8]⟩
abbrev S8x256x8 : Shape := ⟨3, ![8, 256, 8]⟩
abbrev S8x8 : Shape := ⟨2, ![8, 8]⟩

class Facts : Prop where
  slices_S2048x2_S2048x1_0_0 : S2048x2.Slices ![0, 0] S2048x1
  bcast_S_S2048x1 : S_.BroadcastsInDim S2048x1 (![] : Fin 0 → Fin S2048x1.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  slices_S2048x2_S2048x1_0_1 : S2048x2.Slices ![0, 1] S2048x1
  shapeCasts_S2048x8_S8x256x8 : S2048x8.ShapeCasts S8x256x8
  natLt_1_32 : 1 < 32
  reducesTo_S8x256x8_S8x8_d1 : S8x256x8.ReducesTo [1] S8x8
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x64 : S_.BroadcastsInDim S512x64 (![] : Fin 0 → Fin S512x64.rank)
  reducesTo_S512x64_S_d0_1 : S512x64.ReducesTo [0, 1] S_
  bcast_S_S2048x2 : S_.BroadcastsInDim S2048x2 (![] : Fin 0 → Fin S2048x2.rank)
  reducesTo_S2048x2_S_d0_1 : S2048x2.ReducesTo [0, 1] S_
  bcast_S_S8x8 : S_.BroadcastsInDim S8x8 (![] : Fin 0 → Fin S8x8.rank)
  reducesTo_S8x8_S_d0_1 : S8x8.ReducesTo [0, 1] S_

variable [Facts]

def fn_where {F : FTy → Type} [FloatOps F] (arg0 : IVec S2048x1 1) (arg1 : IVec S2048x1 32) (arg2 : IVec S2048x1 32) : IVec S2048x1 32 :=
  let v0 : IVec S2048x1 32 := select arg0 arg1 arg2
  v0

def fn_floor_divide {F : FTy → Type} [FloatOps F] (arg0 : IVec S2048x1 32) (arg1 : IVec S_ 32) : IVec S2048x1 32 :=
  let v0 : IVec S_ 32 := id arg1
  let v1 : IVec S2048x1 32 := broadcastInDim S2048x1 ![] bcast_S_S2048x1 v0
  let v2 : IVec S2048x1 32 := Host.divsi arg0 v1
  let v3 : IVec S2048x1 32 := signi arg0
  let v4 : IVec S_ 32 := signi v0
  let v5 : IVec S2048x1 32 := broadcastInDim S2048x1 ![] bcast_S_S2048x1 v4
  let v6 : IVec S2048x1 1 := cmpi .ne v3 v5
  let v7 : IVec S2048x1 32 := broadcastInDim S2048x1 ![] bcast_S_S2048x1 v0
  let v8 : IVec S2048x1 32 := Host.remsi arg0 v7
  let c : IVec S_ 32 := constantI S_ 32 0#32
  let v9 : IVec S2048x1 32 := broadcastInDim S2048x1 ![] bcast_S_S2048x1 c
  let v10 : IVec S2048x1 1 := cmpi .ne v8 v9
  let v11 : IVec S2048x1 1 := andi v6 v10
  let c_0 : IVec S_ 32 := constantI S_ 32 1#32
  let v12 : IVec S2048x1 32 := broadcastInDim S2048x1 ![] bcast_S_S2048x1 c_0
  let v13 : IVec S2048x1 32 := subi v2 v12
  let v14 : IVec S2048x1 32 := fn_where (F := F) v11 v13 v2
  v14

def fn_part2 {F : FTy → Type} [FloatOps F] (main_v33 : IVec S_ 1) (main_v35 : IVec S8x8 1) (main_c_9 : IVec S_ 1) : IVec S_ 1 :=
  let main_v36 : IVec S_ 1 := (fun x v => Host.reduce IntOp.andi x v reducesTo_S8x8_S_d0_1 h_S_) main_v35 main_c_9
  let main_v37 : IVec S_ 1 := andi main_v33 main_v36
  main_v37

def fn_part1 {F : FTy → Type} [FloatOps F] (main_arg1 : FVec F S512x64 .f32) (main_arg2 : IVec S2048x2 32) (main_v17 : IVec S8x8 32) (main_v18 : FVec F S2048x512 .f32) (main_v19 : FVec F S2048x512 .f32) : IVec S_ 1 :=
  let main_v20 : IVec S2048x512 1 := cmpf .olt main_v18 main_v19
  let main_c_2 : IVec S_ 1 := constantI S_ 1 1#1
  let main_v21 : IVec S_ 1 := (fun x v => Host.reduce IntOp.andi x v reducesTo_S2048x512_S_d0_1 h_S_) main_v20 main_c_2
  let main_v22 : FVec F S512x64 .f32 := Host.absf main_arg1
  let main_cst_3 : FVec F S_ .f32 := constant S_ .f32 0x7F800000#32
  let main_v23 : FVec F S512x64 .f32 := broadcastInDim S512x64 ![] bcast_S_S512x64 main_cst_3
  let main_v24 : IVec S512x64 1 := cmpf .olt main_v22 main_v23
  let main_c_4 : IVec S_ 1 := constantI S_ 1 1#1
  let main_v25 : IVec S_ 1 := (fun x v => Host.reduce IntOp.andi x v reducesTo_S512x64_S_d0_1 h_S_) main_v24 main_c_4
  let main_v26 : IVec S_ 1 := andi main_v21 main_v25
  let main_c_5 : IVec S_ 32 := constantI S_ 32 0#32
  let main_v27 : IVec S2048x2 32 := broadcastInDim S2048x2 ![] bcast_S_S2048x2 main_c_5
  let main_v28 : IVec S2048x2 1 := cmpi .sge main_arg2 main_v27
  let main_c_6 : IVec S_ 32 := constantI S_ 32 64#32
  let main_v29 : IVec S2048x2 32 := broadcastInDim S2048x2 ![] bcast_S_S2048x2 main_c_6
  let main_v30 : IVec S2048x2 1 := cmpi .slt main_arg2 main_v29
  let main_v31 : IVec S2048x2 1 := andi main_v28 main_v30
  let main_c_7 : IVec S_ 1 := constantI S_ 1 1#1
  let main_v32 : IVec S_ 1 := (fun x v => Host.reduce IntOp.andi x v reducesTo_S2048x2_S_d0_1 h_S_) main_v31 main_c_7
  let main_v33 : IVec S_ 1 := andi main_v26 main_v32
  let main_c_8 : IVec S_ 32 := constantI S_ 32 128#32
  let main_v34 : IVec S8x8 32 := broadcastInDim S8x8 ![] bcast_S_S8x8 main_c_8
  let main_v35 : IVec S8x8 1 := cmpi .sle main_v17 main_v34
  let main_c_9 : IVec S_ 1 := constantI S_ 1 1#1
  fn_part2 (F := F) main_v33 main_v35 main_c_9

def fn {F : FTy → Type} [FloatOps F] (main_arg0 : FVec F S2048x512 .f32) (main_arg1 : FVec F S512x64 .f32) (main_arg2 : IVec S2048x2 32) (main_arg3 : FVec F S64x512x1024 .f32) : IVec S_ 1 :=
  let main_v0 : IVec S2048x1 32 := (extractStridedSlice S2048x1 ![0, 0] · slices_S2048x2_S2048x1_0_0) main_arg2
  let main_c : IVec S_ 32 := constantI S_ 32 8#32
  let main_v1 : IVec S2048x1 32 := fn_floor_divide (F := F) main_v0 main_c
  let main_v2 : IVec S8 32 := iotaInDim S8 32 0
  let main_v3 : IVec S1x8 32 := broadcastInDim S1x8 ![1] bcast_S8_S1x8_1 main_v2
  let main_v4 : IVec S2048x8 32 := broadcastInDim S2048x8 ![0, 1] bcast_S2048x1_S2048x8_0_1 main_v1
  let main_v5 : IVec S2048x8 32 := broadcastInDim S2048x8 ![0, 1] bcast_S1x8_S2048x8_0_1 main_v3
  let main_v6 : IVec S2048x8 1 := cmpi .eq main_v4 main_v5
  let main_v7 : IVec S2048x1 32 := (extractStridedSlice S2048x1 ![0, 1] · slices_S2048x2_S2048x1_0_1) main_arg2
  let main_c_0 : IVec S_ 32 := constantI S_ 32 8#32
  let main_v8 : IVec S2048x1 32 := fn_floor_divide (F := F) main_v7 main_c_0
  let main_v9 : IVec S8 32 := iotaInDim S8 32 0
  let main_v10 : IVec S1x8 32 := broadcastInDim S1x8 ![1] bcast_S8_S1x8_1 main_v9
  let main_v11 : IVec S2048x8 32 := broadcastInDim S2048x8 ![0, 1] bcast_S2048x1_S2048x8_0_1 main_v8
  let main_v12 : IVec S2048x8 32 := broadcastInDim S2048x8 ![0, 1] bcast_S1x8_S2048x8_0_1 main_v10
  let main_v13 : IVec S2048x8 1 := cmpi .eq main_v11 main_v12
  let main_v14 : IVec S2048x8 1 := ori main_v6 main_v13
  let main_v15 : IVec S8x256x8 1 := shapeCast S8x256x8 main_v14 shapeCasts_S2048x8_S8x256x8
  let main_v16 : IVec S8x256x8 32 := (extui 32 · natLt_1_32) main_v15
  let main_c_1 : IVec S_ 32 := constantI S_ 32 0#32
  let main_v17 : IVec S8x8 32 := (fun x v => Host.reduce IntOp.addi x v reducesTo_S8x256x8_S8x8_d1 h_S_) main_v16 main_c_1
  let main_v18 : FVec F S2048x512 .f32 := Host.absf main_arg0
  let main_cst : FVec F S_ .f32 := constant S_ .f32 0x7F800000#32
  let main_v19 : FVec F S2048x512 .f32 := broadcastInDim S2048x512 ![] bcast_S_S2048x512 main_cst
  fn_part1 (F := F) main_arg1 main_arg2 main_v17 main_v18 main_v19
-- ==== Kernel.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S256x1024 : Shape := ⟨2, ![256, 1024]⟩
abbrev S4096x1024 : Shape := ⟨2, ![4096, 1024]⟩
abbrev S256x4096 : Shape := ⟨2, ![256, 4096]⟩
abbrev S2048x8 : Shape := ⟨2, ![2048, 8]⟩
abbrev S7x129x1024 : Shape := ⟨3, ![7, 129, 1024]⟩
abbrev S7 : Shape := ⟨1, ![7]⟩
abbrev S8 : Shape := ⟨1, ![8]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S2048x64 : Shape := ⟨2, ![2048, 64]⟩
abbrev S2048x1 : Shape := ⟨2, ![2048, 1]⟩
abbrev S2048 : Shape := ⟨1, ![2048]⟩
abbrev S256x128 : Shape := ⟨2, ![256, 128]⟩
abbrev S256x1 : Shape := ⟨2, ![256, 1]⟩
abbrev S256x256 : Shape := ⟨2, ![256, 256]⟩
abbrev S256x8 : Shape := ⟨2, ![256, 8]⟩
abbrev S256x512 : Shape := ⟨2, ![256, 512]⟩
abbrev S128x512 : Shape := ⟨2, ![128, 512]⟩
abbrev S128x8 : Shape := ⟨2, ![128, 8]⟩
abbrev S128x1 : Shape := ⟨2, ![128, 1]⟩
abbrev S128x1024 : Shape := ⟨2, ![128, 1024]⟩
abbrev S1x128 : Shape := ⟨2, ![1, 128]⟩
abbrev S1x896 : Shape := ⟨2, ![1, 896]⟩
abbrev S1x1024 : Shape := ⟨2, ![1, 1024]⟩
abbrev S129x1024 : Shape := ⟨2, ![129, 1024]⟩
abbrev S1x129x1024 : Shape := ⟨3, ![1, 129, 1024]⟩
abbrev S1x1x128 : Shape := ⟨3, ![1, 1, 128]⟩
abbrev S1x128x1024 : Shape := ⟨3, ![1, 128, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S8x512x1024, .f32⟩
  | .hbm, ⟨4, _⟩ => ⟨S256x1024, .f32⟩
  | .local _ .vmem, ⟨0, _⟩ => ⟨S2048x512, .f32⟩
  | .local _ .vmem, ⟨1, _⟩ => ⟨S512x64, .f32⟩
  | .local _ .vmem, ⟨2, _⟩ => ⟨S2048x2, .i32⟩
  | .local _ .vmem, ⟨3, _⟩ => ⟨S256x1024, .f32⟩
  | .local _ .vmem, ⟨4, _⟩ => ⟨S4096x1024, .bf16⟩
  | .local _ .vmem, ⟨5, _⟩ => ⟨S256x4096, .bf16⟩
  | .local _ .vmem, ⟨6, _⟩ => ⟨S2048x8, .f32⟩
  | .local _ .vmem, ⟨7, _⟩ => ⟨S7x129x1024, .bf16⟩
  | .local _ .vmem, ⟨8, _⟩ => ⟨S7x129x1024, .bf16⟩
  | .local _ .vmem, ⟨9, _⟩ => ⟨S8x512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v52 : BitVec 32 := Scalar.addi v2 c1_i32_49
  let c8_i32_50 : BitVec 32 := 8#32
  let c0_i32_51 : BitVec 32 := 0#32
  let v53 : BitVec 1 := Scalar.cmpi .eq c8_i32_50 c0_i32_51
  let c1_i32_52 : BitVec 32 := 1#32
  let v54 : BitVec 32 := Scalar.select v53 c1_i32_52 c8_i32_50
  let v55 : BitVec 32 := Scalar.remsi v52 v54
  let c0_i32_54 : BitVec 32 := 0#32
  let v57 : BitVec 1 := Scalar.cmpi .slt v55 c0_i32_54
  let c0_i32_55 : BitVec 32 := 0#32
  let v58 : BitVec 1 := Scalar.cmpi .slt v54 c0_i32_55
  let v59 : BitVec 1 := Scalar.xori v57 v58
  let c0_i32_53 : BitVec 32 := 0#32
  let v56 : BitVec 1 := Scalar.cmpi .ne v55 c0_i32_53
  let v60 : BitVec 1 := Scalar.andi v59 v56
  let v61 : BitVec 32 := Scalar.addi v55 v54
  let v62 : BitVec 32 := Scalar.select v60 v61 v55
  let c1_i32_57 : BitVec 32 := 1#32
  let v63 : BitVec 32 := Scalar.muli v62 c1_i32_57
  let v64 : BitVec 32 := Scalar.addi c0_i32_58 v63
  v64.toNat
def k0_dev2 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v65 : BitVec 32 := Scalar.addi v2 c2_i32_59
  let c8_i32_60 : BitVec 32 := 8#32
  let c0_i32_61 : BitVec 32 := 0#32
  let v66 : BitVec 1 := Scalar.cmpi .eq c8_i32_60 c0_i32_61
  let c1_i32_62 : BitVec 32 := 1#32
  let v67 : BitVec 32 := Scalar.select v66 c1_i32_62 c8_i32_60
  let v68 : BitVec 32 := Scalar.remsi v65 v67
  let c0_i32_64 : BitVec 32 := 0#32
  let v70 : BitVec 1 := Scalar.cmpi .slt v68 c0_i32_64
  let c0_i32_65 : BitVec 32 := 0#32
  let v71 : BitVec 1 := Scalar.cmpi .slt v67 c0_i32_65
  let v72 : BitVec 1 := Scalar.xori v70 v71
  let c0_i32_63 : BitVec 32 := 0#32
  let v69 : BitVec 1 := Scalar.cmpi .ne v68 c0_i32_63
  let v73 : BitVec 1 := Scalar.andi v72 v69
  let v74 : BitVec 32 := Scalar.addi v68 v67
  let v75 : BitVec 32 := Scalar.select v73 v74 v68
  let c1_i32_67 : BitVec 32 := 1#32
  let v76 : BitVec 32 := Scalar.muli v75 c1_i32_67
  let v77 : BitVec 32 := Scalar.addi c0_i32_68 v76
  v77.toNat
def k0_dev3 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_69 : BitVec 32 := 3#32
  let v78 : BitVec 32 := Scalar.addi v2 c3_i32_69
  let c8_i32_70 : BitVec 32 := 8#32
  let c0_i32_71 : BitVec 32 := 0#32
  let v79 : BitVec 1 := Scalar.cmpi .eq c8_i32_70 c0_i32_71
  let c1_i32_72 : BitVec 32 := 1#32
  let v80 : BitVec 32 := Scalar.select v79 c1_i32_72 c8_i32_70
  let v81 : BitVec 32 := Scalar.remsi v78 v80
  let c0_i32_74 : BitVec 32 := 0#32
  let v83 : BitVec 1 := Scalar.cmpi .slt v81 c0_i32_74
  let c0_i32_75 : BitVec 32 := 0#32
  let v84 : BitVec 1 := Scalar.cmpi .slt v80 c0_i32_75
  let v85 : BitVec 1 := Scalar.xori v83 v84
  let c0_i32_73 : BitVec 32 := 0#32
  let v82 : BitVec 1 := Scalar.cmpi .ne v81 c0_i32_73
  let v86 : BitVec 1 := Scalar.andi v85 v82
  let v87 : BitVec 32 := Scalar.addi v81 v80
  let v88 : BitVec 32 := Scalar.select v86 v87 v81
  let c1_i32_77 : BitVec 32 := 1#32
  let v89 : BitVec 32 := Scalar.muli v88 c1_i32_77
  let v90 : BitVec 32 := Scalar.addi c0_i32_78 v89
  v90.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_79 : BitVec 32 := 4#32
  let v91 : BitVec 32 := Scalar.addi v2 c4_i32_79
  let c8_i32_80 : BitVec 32 := 8#32
  let c0_i32_81 : BitVec 32 := 0#32
  let v92 : BitVec 1 := Scalar.cmpi .eq c8_i32_80 c0_i32_81
  let c1_i32_82 : BitVec 32 := 1#32
  let v93 : BitVec 32 := Scalar.select v92 c1_i32_82 c8_i32_80
  let v94 : BitVec 32 := Scalar.remsi v91 v93
  let c0_i32_84 : BitVec 32 := 0#32
  let v96 : BitVec 1 := Scalar.cmpi .slt v94 c0_i32_84
  let c0_i32_85 : BitVec 32 := 0#32
  let v97 : BitVec 1 := Scalar.cmpi .slt v93 c0_i32_85
  let v98 : BitVec 1 := Scalar.xori v96 v97
  let c0_i32_83 : BitVec 32 := 0#32
  let v95 : BitVec 1 := Scalar.cmpi .ne v94 c0_i32_83
  let v99 : BitVec 1 := Scalar.andi v98 v95
  let v100 : BitVec 32 := Scalar.addi v94 v93
  let v101 : BitVec 32 := Scalar.select v99 v100 v94
  let c1_i32_87 : BitVec 32 := 1#32
  let v102 : BitVec 32 := Scalar.muli v101 c1_i32_87
  let v103 : BitVec 32 := Scalar.addi c0_i32_88 v102
  v103.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_89 : BitVec 32 := 5#32
  let v104 : BitVec 32 := Scalar.addi v2 c5_i32_89
  let c8_i32_90 : BitVec 32 := 8#32
  let c0_i32_91 : BitVec 32 := 0#32
  let v105 : BitVec 1 := Scalar.cmpi .eq c8_i32_90 c0_i32_91
  let c1_i32_92 : BitVec 32 := 1#32
  let v106 : BitVec 32 := Scalar.select v105 c1_i32_92 c8_i32_90
  let v107 : BitVec 32 := Scalar.remsi v104 v106
  let c0_i32_94 : BitVec 32 := 0#32
  let v109 : BitVec 1 := Scalar.cmpi .slt v107 c0_i32_94
  let c0_i32_95 : BitVec 32 := 0#32
  let v110 : BitVec 1 := Scalar.cmpi .slt v106 c0_i32_95
  let v111 : BitVec 1 := Scalar.xori v109 v110
  let c0_i32_93 : BitVec 32 := 0#32
  let v108 : BitVec 1 := Scalar.cmpi .ne v107 c0_i32_93
  let v112 : BitVec 1 := Scalar.andi v111 v108
  let v113 : BitVec 32 := Scalar.addi v107 v106
  let v114 : BitVec 32 := Scalar.select v112 v113 v107
  let c1_i32_97 : BitVec 32 := 1#32
  let v115 : BitVec 32 := Scalar.muli v114 c1_i32_97
  let v116 : BitVec 32 := Scalar.addi c0_i32_98 v115
  v116.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_99 : BitVec 32 := 6#32
  let v117 : BitVec 32 := Scalar.addi v2 c6_i32_99
  let c8_i32_100 : BitVec 32 := 8#32
  let c0_i32_101 : BitVec 32 := 0#32
  let v118 : BitVec 1 := Scalar.cmpi .eq c8_i32_100 c0_i32_101
  let c1_i32_102 : BitVec 32 := 1#32
  let v119 : BitVec 32 := Scalar.select v118 c1_i32_102 c8_i32_100
  let v120 : BitVec 32 := Scalar.remsi v117 v119
  let c0_i32_104 : BitVec 32 := 0#32
  let v122 : BitVec 1 := Scalar.cmpi .slt v120 c0_i32_104
  let c0_i32_105 : BitVec 32 := 0#32
  let v123 : BitVec 1 := Scalar.cmpi .slt v119 c0_i32_105
  let v124 : BitVec 1 := Scalar.xori v122 v123
  let c0_i32_103 : BitVec 32 := 0#32
  let v121 : BitVec 1 := Scalar.cmpi .ne v120 c0_i32_103
  let v125 : BitVec 1 := Scalar.andi v124 v121
  let v126 : BitVec 32 := Scalar.addi v120 v119
  let v127 : BitVec 32 := Scalar.select v125 v126 v120
  let c1_i32_107 : BitVec 32 := 1#32
  let v128 : BitVec 32 := Scalar.muli v127 c1_i32_107
  let v129 : BitVec 32 := Scalar.addi c0_i32_108 v128
  v129.toNat
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_109 : BitVec 32 := 7#32
  let v130 : BitVec 32 := Scalar.addi v2 c7_i32_109
  let c8_i32_110 : BitVec 32 := 8#32
  let c0_i32_111 : BitVec 32 := 0#32
  let v131 : BitVec 1 := Scalar.cmpi .eq c8_i32_110 c0_i32_111
  let c1_i32_112 : BitVec 32 := 1#32
  let v132 : BitVec 32 := Scalar.select v131 c1_i32_112 c8_i32_110
  let v133 : BitVec 32 := Scalar.remsi v130 v132
  let c0_i32_114 : BitVec 32 := 0#32
  let v135 : BitVec 1 := Scalar.cmpi .slt v133 c0_i32_114
  let c0_i32_115 : BitVec 32 := 0#32
  let v136 : BitVec 1 := Scalar.cmpi .slt v132 c0_i32_115
  let v137 : BitVec 1 := Scalar.xori v135 v136
  let c0_i32_113 : BitVec 32 := 0#32
  let v134 : BitVec 1 := Scalar.cmpi .ne v133 c0_i32_113
  let v138 : BitVec 1 := Scalar.andi v137 v134
  let v139 : BitVec 32 := Scalar.addi v133 v132
  let v140 : BitVec 32 := Scalar.select v138 v139 v133
  let c1_i32_117 : BitVec 32 := 1#32
  let v141 : BitVec 32 := Scalar.muli v140 c1_i32_117
  let v142 : BitVec 32 := Scalar.addi c0_i32_118 v141
  v142.toNat
def k0_off1 (d0 : Dev nD) (c1_i32_136 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v200 : BitVec 32 := Scalar.addi v2 c1_i32_136
  let c8_i32_137 : BitVec 32 := 8#32
  let c0_i32_138 : BitVec 32 := 0#32
  let v201 : BitVec 1 := Scalar.cmpi .eq c8_i32_137 c0_i32_138
  let c1_i32_139 : BitVec 32 := 1#32
  let v202 : BitVec 32 := Scalar.select v201 c1_i32_139 c8_i32_137
  let v203 : BitVec 32 := Scalar.remsi v200 v202
  let c0_i32_141 : BitVec 32 := 0#32
  let v205 : BitVec 1 := Scalar.cmpi .slt v203 c0_i32_141
  let c0_i32_142 : BitVec 32 := 0#32
  let v206 : BitVec 1 := Scalar.cmpi .slt v202 c0_i32_142
  let v207 : BitVec 1 := Scalar.xori v205 v206
  let c0_i32_140 : BitVec 32 := 0#32
  let v204 : BitVec 1 := Scalar.cmpi .ne v203 c0_i32_140
  let v208 : BitVec 1 := Scalar.andi v207 v204
  let v209 : BitVec 32 := Scalar.addi v203 v202
  let v210 : BitVec 32 := Scalar.select v208 v209 v203
  let c256_i32 : BitVec 32 := 256#32
  let v211 : BitVec 32 := Scalar.muli v210 c256_i32
  let v212 : Index := Scalar.indexCast v211
  let c0_143 : Index := 0#32
  ![v212.toNat, 0]
def k0_off2 (d0 : Dev nD) (c1_i32_136 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v200 : BitVec 32 := Scalar.addi v2 c1_i32_136
  let c8_i32_137 : BitVec 32 := 8#32
  let c0_i32_138 : BitVec 32 := 0#32
  let v201 : BitVec 1 := Scalar.cmpi .eq c8_i32_137 c0_i32_138
  let c1_i32_139 : BitVec 32 := 1#32
  let v202 : BitVec 32 := Scalar.select v201 c1_i32_139 c8_i32_137
  let v203 : BitVec 32 := Scalar.remsi v200 v202
  let c0_i32_141 : BitVec 32 := 0#32
  let v205 : BitVec 1 := Scalar.cmpi .slt v203 c0_i32_141
  let c0_i32_142 : BitVec 32 := 0#32
  let v206 : BitVec 1 := Scalar.cmpi .slt v202 c0_i32_142
  let v207 : BitVec 1 := Scalar.xori v205 v206
  let c0_i32_140 : BitVec 32 := 0#32
  let v204 : BitVec 1 := Scalar.cmpi .ne v203 c0_i32_140
  let v208 : BitVec 1 := Scalar.andi v207 v204
  let v209 : BitVec 32 := Scalar.addi v203 v202
  let v210 : BitVec 32 := Scalar.select v208 v209 v203
  let c256_i32_144 : BitVec 32 := 256#32
  let v215 : BitVec 32 := Scalar.muli v210 c256_i32_144
  let v216 : Index := Scalar.indexCast v215
  let c1_145 : Index := 1#32
  ![v216.toNat, 1]
def k0_off3 (d0 : Dev nD) (c1_i32_136 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v200 : BitVec 32 := Scalar.addi v2 c1_i32_136
  let c8_i32_137 : BitVec 32 := 8#32
  let c0_i32_138 : BitVec 32 := 0#32
  let v201 : BitVec 1 := Scalar.cmpi .eq c8_i32_137 c0_i32_138
  let c1_i32_139 : BitVec 32 := 1#32
  let v202 : BitVec 32 := Scalar.select v201 c1_i32_139 c8_i32_137
  let v203 : BitVec 32 := Scalar.remsi v200 v202
  let c0_i32_141 : BitVec 32 := 0#32
  let v205 : BitVec 1 := Scalar.cmpi .slt v203 c0_i32_141
  let c0_i32_142 : BitVec 32 := 0#32
  let v206 : BitVec 1 := Scalar.cmpi .slt v202 c0_i32_142
  let v207 : BitVec 1 := Scalar.xori v205 v206
  let c0_i32_140 : BitVec 32 := 0#32
  let v204 : BitVec 1 := Scalar.cmpi .ne v203 c0_i32_140
  let v208 : BitVec 1 := Scalar.andi v207 v204
  let v209 : BitVec 32 := Scalar.addi v203 v202
  let v210 : BitVec 32 := Scalar.select v208 v209 v203
  let c256_i32_161 : BitVec 32 := 256#32
  let v284 : BitVec 32 := Scalar.muli v210 c256_i32_161
  let v285 : Index := Scalar.indexCast v284
  let c0_162 : Index := 0#32
  ![v285.toNat, 0]
def k0_off4 (d0 : Dev nD) (c1_i32_136 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v200 : BitVec 32 := Scalar.addi v2 c1_i32_136
  let c8_i32_137 : BitVec 32 := 8#32
  let c0_i32_138 : BitVec 32 := 0#32
  let v201 : BitVec 1 := Scalar.cmpi .eq c8_i32_137 c0_i32_138
  let c1_i32_139 : BitVec 32 := 1#32
  let v202 : BitVec 32 := Scalar.select v201 c1_i32_139 c8_i32_137
  let v203 : BitVec 32 := Scalar.remsi v200 v202
  let c0_i32_141 : BitVec 32 := 0#32
  let v205 : BitVec 1 := Scalar.cmpi .slt v203 c0_i32_141
  let c0_i32_142 : BitVec 32 := 0#32
  let v206 : BitVec 1 := Scalar.cmpi .slt v202 c0_i32_142
  let v207 : BitVec 1 := Scalar.xori v205 v206
  let c0_i32_140 : BitVec 32 := 0#32
  let v204 : BitVec 1 := Scalar.cmpi .ne v203 c0_i32_140
  let v208 : BitVec 1 := Scalar.andi v207 v204
  let v209 : BitVec 32 := Scalar.addi v203 v202
  let v210 : BitVec 32 := Scalar.select v208 v209 v203
  let c256_i32_163 : BitVec 32 := 256#32
  let v287 : BitVec 32 := Scalar.muli v210 c256_i32_163
  let v288 : Index := Scalar.indexCast v287
  let c0_164 : Index := 0#32
  ![v288.toNat, 0]
def k0_dev8 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_323 : BitVec 32 := 1#32
  let v610 : BitVec 32 := Scalar.addi v2 c1_i32_323
  let c8_i32_324 : BitVec 32 := 8#32
  let c0_i32_325 : BitVec 32 := 0#32
  let v611 : BitVec 1 := Scalar.cmpi .eq c8_i32_324 c0_i32_325
  let c1_i32_326 : BitVec 32 := 1#32
  let v612 : BitVec 32 := Scalar.select v611 c1_i32_326 c8_i32_324
  let v613 : BitVec 32 := Scalar.remsi v610 v612
  let c0_i32_328 : BitVec 32 := 0#32
  let v615 : BitVec 1 := Scalar.cmpi .slt v613 c0_i32_328
  let c0_i32_329 : BitVec 32 := 0#32
  let v616 : BitVec 1 := Scalar.cmpi .slt v612 c0_i32_329
  let v617 : BitVec 1 := Scalar.xori v615 v616
  let c0_i32_327 : BitVec 32 := 0#32
  let v614 : BitVec 1 := Scalar.cmpi .ne v613 c0_i32_327
  let v618 : BitVec 1 := Scalar.andi v617 v614
  let v619 : BitVec 32 := Scalar.addi v613 v612
  let v620 : BitVec 32 := Scalar.select v618 v619 v613
  let c1_i32_334 : BitVec 32 := 1#32
  let v621 : BitVec 32 := Scalar.muli v620 c1_i32_334
  let v622 : BitVec 32 := Scalar.addi c0_i32_335 v621
  v622.toNat
def k0_dev9 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_345 : BitVec 32 := 2#32
  let v640 : BitVec 32 := Scalar.addi v2 c2_i32_345
  let c8_i32_346 : BitVec 32 := 8#32
  let c0_i32_347 : BitVec 32 := 0#32
  let v641 : BitVec 1 := Scalar.cmpi .eq c8_i32_346 c0_i32_347
  let c1_i32_348 : BitVec 32 := 1#32
  let v642 : BitVec 32 := Scalar.select v641 c1_i32_348 c8_i32_346
  let v643 : BitVec 32 := Scalar.remsi v640 v642
  let c0_i32_350 : BitVec 32 := 0#32
  let v645 : BitVec 1 := Scalar.cmpi .slt v643 c0_i32_350
  let c0_i32_351 : BitVec 32 := 0#32
  let v646 : BitVec 1 := Scalar.cmpi .slt v642 c0_i32_351
  let v647 : BitVec 1 := Scalar.xori v645 v646
  let c0_i32_349 : BitVec 32 := 0#32
  let v644 : BitVec 1 := Scalar.cmpi .ne v643 c0_i32_349
  let v648 : BitVec 1 := Scalar.andi v647 v644
  let v649 : BitVec 32 := Scalar.addi v643 v642
  let v650 : BitVec 32 := Scalar.select v648 v649 v643
  let c1_i32_356 : BitVec 32 := 1#32
  let v651 : BitVec 32 := Scalar.muli v650 c1_i32_356
  let v652 : BitVec 32 := Scalar.addi c0_i32_357 v651
  v652.toNat
def k0_dev10 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_468 : BitVec 32 := 3#32
  let v975 : BitVec 32 := Scalar.addi v2 c3_i32_468
  let c8_i32_469 : BitVec 32 := 8#32
  let c0_i32_470 : BitVec 32 := 0#32
  let v976 : BitVec 1 := Scalar.cmpi .eq c8_i32_469 c0_i32_470
  let c1_i32_471 : BitVec 32 := 1#32
  let v977 : BitVec 32 := Scalar.select v976 c1_i32_471 c8_i32_469
  let v978 : BitVec 32 := Scalar.remsi v975 v977
  let c0_i32_473 : BitVec 32 := 0#32
  let v980 : BitVec 1 := Scalar.cmpi .slt v978 c0_i32_473
  let c0_i32_474 : BitVec 32 := 0#32
  let v981 : BitVec 1 := Scalar.cmpi .slt v977 c0_i32_474
  let v982 : BitVec 1 := Scalar.xori v980 v981
  let c0_i32_472 : BitVec 32 := 0#32
  let v979 : BitVec 1 := Scalar.cmpi .ne v978 c0_i32_472
  let v983 : BitVec 1 := Scalar.andi v982 v979
  let v984 : BitVec 32 := Scalar.addi v978 v977
  let v985 : BitVec 32 := Scalar.select v983 v984 v978
  let c1_i32_479 : BitVec 32 := 1#32
  let v986 : BitVec 32 := Scalar.muli v985 c1_i32_479
  let v987 : BitVec 32 := Scalar.addi c0_i32_480 v986
  v987.toNat
def k0_dev11 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_490 : BitVec 32 := 4#32
  let v1005 : BitVec 32 := Scalar.addi v2 c4_i32_490
  let c8_i32_491 : BitVec 32 := 8#32
  let c0_i32_492 : BitVec 32 := 0#32
  let v1006 : BitVec 1 := Scalar.cmpi .eq c8_i32_491 c0_i32_492
  let c1_i32_493 : BitVec 32 := 1#32
  let v1007 : BitVec 32 := Scalar.select v1006 c1_i32_493 c8_i32_491
  let v1008 : BitVec 32 := Scalar.remsi v1005 v1007
  let c0_i32_495 : BitVec 32 := 0#32
  let v1010 : BitVec 1 := Scalar.cmpi .slt v1008 c0_i32_495
  let c0_i32_496 : BitVec 32 := 0#32
  let v1011 : BitVec 1 := Scalar.cmpi .slt v1007 c0_i32_496
  let v1012 : BitVec 1 := Scalar.xori v1010 v1011
  let c0_i32_494 : BitVec 32 := 0#32
  let v1009 : BitVec 1 := Scalar.cmpi .ne v1008 c0_i32_494
  let v1013 : BitVec 1 := Scalar.andi v1012 v1009
  let v1014 : BitVec 32 := Scalar.addi v1008 v1007
  let v1015 : BitVec 32 := Scalar.select v1013 v1014 v1008
  let c1_i32_501 : BitVec 32 := 1#32
  let v1016 : BitVec 32 := Scalar.muli v1015 c1_i32_501
  let v1017 : BitVec 32 := Scalar.addi c0_i32_502 v1016
  v1017.toNat
def k0_dev12 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_613 : BitVec 32 := 5#32
  let v1340 : BitVec 32 := Scalar.addi v2 c5_i32_613
  let c8_i32_614 : BitVec 32 := 8#32
  let c0_i32_615 : BitVec 32 := 0#32
  let v1341 : BitVec 1 := Scalar.cmpi .eq c8_i32_614 c0_i32_615
  let c1_i32_616 : BitVec 32 := 1#32
  let v1342 : BitVec 32 := Scalar.select v1341 c1_i32_616 c8_i32_614
  let v1343 : BitVec 32 := Scalar.remsi v1340 v1342
  let c0_i32_618 : BitVec 32 := 0#32
  let v1345 : BitVec 1 := Scalar.cmpi .slt v1343 c0_i32_618
  let c0_i32_619 : BitVec 32 := 0#32
  let v1346 : BitVec 1 := Scalar.cmpi .slt v1342 c0_i32_619
  let v1347 : BitVec 1 := Scalar.xori v1345 v1346
  let c0_i32_617 : BitVec 32 := 0#32
  let v1344 : BitVec 1 := Scalar.cmpi .ne v1343 c0_i32_617
  let v1348 : BitVec 1 := Scalar.andi v1347 v1344
  let v1349 : BitVec 32 := Scalar.addi v1343 v1342
  let v1350 : BitVec 32 := Scalar.select v1348 v1349 v1343
  let c1_i32_624 : BitVec 32 := 1#32
  let v1351 : BitVec 32 := Scalar.muli v1350 c1_i32_624
  let v1352 : BitVec 32 := Scalar.addi c0_i32_625 v1351
  v1352.toNat
def k0_dev13 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_635 : BitVec 32 := 6#32
  let v1370 : BitVec 32 := Scalar.addi v2 c6_i32_635
  let c8_i32_636 : BitVec 32 := 8#32
  let c0_i32_637 : BitVec 32 := 0#32
  let v1371 : BitVec 1 := Scalar.cmpi .eq c8_i32_636 c0_i32_637
  let c1_i32_638 : BitVec 32 := 1#32
  let v1372 : BitVec 32 := Scalar.select v1371 c1_i32_638 c8_i32_636
  let v1373 : BitVec 32 := Scalar.remsi v1370 v1372
  let c0_i32_640 : BitVec 32 := 0#32
  let v1375 : BitVec 1 := Scalar.cmpi .slt v1373 c0_i32_640
  let c0_i32_641 : BitVec 32 := 0#32
  let v1376 : BitVec 1 := Scalar.cmpi .slt v1372 c0_i32_641
  let v1377 : BitVec 1 := Scalar.xori v1375 v1376
  let c0_i32_639 : BitVec 32 := 0#32
  let v1374 : BitVec 1 := Scalar.cmpi .ne v1373 c0_i32_639
  let v1378 : BitVec 1 := Scalar.andi v1377 v1374
  let v1379 : BitVec 32 := Scalar.addi v1373 v1372
  let v1380 : BitVec 32 := Scalar.select v1378 v1379 v1373
  let c1_i32_646 : BitVec 32 := 1#32
  let v1381 : BitVec 32 := Scalar.muli v1380 c1_i32_646
  let v1382 : BitVec 32 := Scalar.addi c0_i32_647 v1381
  v1382.toNat
def k0_dev14 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_758 : BitVec 32 := 7#32
  let v1705 : BitVec 32 := Scalar.addi v2 c7_i32_758
  let c8_i32_759 : BitVec 32 := 8#32
  let c0_i32_760 : BitVec 32 := 0#32
  let v1706 : BitVec 1 := Scalar.cmpi .eq c8_i32_759 c0_i32_760
  let c1_i32_761 : BitVec 32 := 1#32
  let v1707 : BitVec 32 := Scalar.select v1706 c1_i32_761 c8_i32_759
  let v1708 : BitVec 32 := Scalar.remsi v1705 v1707
  let c0_i32_763 : BitVec 32 := 0#32
  let v1710 : BitVec 1 := Scalar.cmpi .slt v1708 c0_i32_763
  let c0_i32_764 : BitVec 32 := 0#32
  let v1711 : BitVec 1 := Scalar.cmpi .slt v1707 c0_i32_764
  let v1712 : BitVec 1 := Scalar.xori v1710 v1711
  let c0_i32_762 : BitVec 32 := 0#32
  let v1709 : BitVec 1 := Scalar.cmpi .ne v1708 c0_i32_762
  let v1713 : BitVec 1 := Scalar.andi v1712 v1709
  let v1714 : BitVec 32 := Scalar.addi v1708 v1707
  let v1715 : BitVec 32 := Scalar.select v1713 v1714 v1708
  let c1_i32_769 : BitVec 32 := 1#32
  let v1716 : BitVec 32 := Scalar.muli v1715 c1_i32_769
  let v1717 : BitVec 32 := Scalar.addi c0_i32_770 v1716
  v1717.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S2048x512x1024 : Shape := ⟨3, ![2048, 512, 1024]⟩
abbrev S2048x1024 : Shape := ⟨2, ![2048, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S64x512x1024, .f32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S2048x1, .f32⟩
  | .hbm, ⟨30, _⟩ => ⟨S2048x1, .i32⟩
  | .hbm, ⟨31, _⟩ => ⟨S_, .i32⟩
  | .hbm, ⟨32, _⟩ => ⟨S2048x1, .i32⟩
  | .hbm, ⟨33, _⟩ => ⟨S2048x1, .i1⟩
  | .hbm, ⟨34, _⟩ => ⟨S_, .i32⟩
  | .hbm, ⟨35, _⟩ => ⟨S2048x1, .i32⟩
  | .hbm, ⟨36, _⟩ => ⟨S2048x1, .i32⟩
  | .hbm, ⟨37, _⟩ => ⟨S2048x1, .i32⟩
  | .hbm, ⟨38, _⟩ => ⟨S2048x1x1, .i32⟩
  | .hbm, ⟨39, _⟩ => ⟨S2048x1, .f32⟩
  | .hbm, ⟨40, _⟩ => ⟨S2048x1, .f32⟩
  | .hbm, ⟨41, _⟩ => ⟨S2048x1, .i32⟩
  | .hbm, ⟨42, _⟩ => ⟨S2048x512x1024, .f32⟩
  | .hbm, ⟨43, _⟩ => ⟨S2048x1024, .f32⟩
  | .hbm, ⟨44, _⟩ => ⟨S2048x1, .i32⟩
  | .hbm, ⟨45, _⟩ => ⟨S2048x512x1024, .f32⟩
  | .hbm, ⟨46, _⟩ => ⟨S2048x1024, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Proof.KernelIdeal.Protocol.lean ====
/-
# The exchange of the expert-parallel kernel as a rounds protocol

Eight devices. Device `c` sends one message to every other device: message `j` (`j = 0 … 6`) goes to `peer j c`, the
device `j + 1` places further round the ring, into slot `j` of that device's receive buffer. Before a device may write
into a slot it must know that the slot's owner has entered the kernel: every device signals the barrier semaphore of the
seven others and waits for seven units on its own.

The cells, all of one round:

* the barrier cell of device `c`: seven duties of one unit, duty `j` paid by the device whose `peer j` is `c`. It hands
  over that device's receive slot which `c` will fill, together with the fact that its arrival cell is at round 0;
* the departure cell `j` of `c`: one duty of the slot's credit, paid by `c`'s own transfer; it gives send slot `j` back;
* the arrival cell `j` of `c`: one duty of the slot's credit, paid by the transfer of the device whose `peer j` is `c`; it
  hands over receive slot `j` holding that device's message.

The messages are a parameter `M` here: `M c j` is what `c` sends as message `j`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Tactic
public import Idealize.ShloMosaic.Lib.ValueIdx

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## Resources -/

/-- The exchange's own ghost state: duties are numbered by the distance they travel. -/
abbrev UB : Type := URounds (GSem nD τ sig) (Fin 7)
/-- The pipeline library's copy, the exchange's, and the counters of the local transfers. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The devices -/

/-- The device `j + 1` places after `c` on the ring of eight. -/
def peer (j : Fin 7) (c : Dev nD) : Dev nD := ⟨(c.val + (j.val + 1)) % 8, Nat.mod_lt _ (by decide)⟩

/-- Going `j + 1` places and then `7 - j` more is once round. -/
theorem peer_rev_peer (j : Fin 7) (c : Dev nD) : peer j.rev (peer j c) = c := by revert j c; decide
theorem peer_peer_rev (j : Fin 7) (c : Dev nD) : peer j (peer j.rev c) = c := by revert j c; decide
theorem peer_ne (j : Fin 7) (c : Dev nD) : peer j c ≠ c := by revert j c; decide
/-- Different distances reach different devices. -/
theorem peer_inj {j j' : Fin 7} {c : Dev nD} (h : peer j c = peer j' c) : j = j' := by revert j j' c; decide

/-- The ring's rotation by `j + 1` places as a permutation of the devices. -/
def ring (j : Fin 7) : Dev nD ≃ Dev nD := ⟨peer j, peer j.rev, peer_rev_peer j, peer_peer_rev j⟩

/-- The devices the kernel computes: its signals and its transfers each address the seven peers in turn. -/
theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 3 c := by revert c; decide
theorem dev5_eq (c : Dev nD) : (⟨k0_dev5 c, k0_dev5_lt c⟩ : Dev nD) = peer 4 c := by revert c; decide
theorem dev6_eq (c : Dev nD) : (⟨k0_dev6 c, k0_dev6_lt c⟩ : Dev nD) = peer 5 c := by revert c; decide
theorem dev7_eq (c : Dev nD) : (⟨k0_dev7 c, k0_dev7_lt c⟩ : Dev nD) = peer 6 c := by revert c; decide
theorem dev8_eq (c : Dev nD) : (⟨k0_dev8 c, k0_dev8_lt c⟩ : Dev nD) = peer 0 c := by revert c; decide
theorem dev9_eq (c : Dev nD) : (⟨k0_dev9 c, k0_dev9_lt c⟩ : Dev nD) = peer 1 c := by revert c; decide
theorem dev10_eq (c : Dev nD) : (⟨k0_dev10 c, k0_dev10_lt c⟩ : Dev nD) = peer 2 c := by revert c; decide
theorem dev11_eq (c : Dev nD) : (⟨k0_dev11 c, k0_dev11_lt c⟩ : Dev nD) = peer 3 c := by revert c; decide
theorem dev12_eq (c : Dev nD) : (⟨k0_dev12 c, k0_dev12_lt c⟩ : Dev nD) = peer 4 c := by revert c; decide
theorem dev13_eq (c : Dev nD) : (⟨k0_dev13 c, k0_dev13_lt c⟩ : Dev nD) = peer 5 c := by revert c; decide
theorem dev14_eq (c : Dev nD) : (⟨k0_dev14 c, k0_dev14_lt c⟩ : Dev nD) = peer 6 c := by revert c; decide

/-- Where chunk `(c + r) mod 8` starts in the arrays of 2048 rows. -/
theorem off1_eq (c : Dev nD) (r : Fin 8) : k0_off1 c (BitVec.ofNat 32 r.val) = ![256 * ((c.val + r.val) % 8), 0] := by revert c r; decide
theorem off2_eq (c : Dev nD) (r : Fin 8) : k0_off2 c (BitVec.ofNat 32 r.val) = ![256 * ((c.val + r.val) % 8), 1] := by revert c r; decide
theorem off3_eq (c : Dev nD) (r : Fin 8) : k0_off3 c (BitVec.ofNat 32 r.val) = ![256 * ((c.val + r.val) % 8), 0] := by revert c r; decide
theorem off4_eq (c : Dev nD) (r : Fin 8) : k0_off4 c (BitVec.ofNat 32 r.val) = ![256 * ((c.val + r.val) % 8), 0] := by revert c r; decide

instance (c : Dev nD) : ClosedOff (k0_off1 c 0#32) := ⟨![256 * ((c.val + 0) % 8), 0], off1_eq c 0⟩
instance (c : Dev nD) : ClosedOff (k0_off1 c 1#32) := ⟨![256 * ((c.val + 1) % 8), 0], off1_eq c 1⟩
instance (c : Dev nD) : ClosedOff (k0_off1 c 2#32) := ⟨![256 * ((c.val + 2) % 8), 0], off1_eq c 2⟩
instance (c : Dev nD) : ClosedOff (k0_off1 c 3#32) := ⟨![256 * ((c.val + 3) % 8), 0], off1_eq c 3⟩
instance (c : Dev nD) : ClosedOff (k0_off1 c 4#32) := ⟨![256 * ((c.val + 4) % 8), 0], off1_eq c 4⟩
instance (c : Dev nD) : ClosedOff (k0_off1 c 5#32) := ⟨![256 * ((c.val + 5) % 8), 0], off1_eq c 5⟩
instance (c : Dev nD) : ClosedOff (k0_off1 c 6#32) := ⟨![256 * ((c.val + 6) % 8), 0], off1_eq c 6⟩
instance (c : Dev nD) : ClosedOff (k0_off1 c 7#32) := ⟨![256 * ((c.val + 7) % 8), 0], off1_eq c 7⟩
instance (c : Dev nD) : ClosedOff (k0_off2 c 0#32) := ⟨![256 * ((c.val + 0) % 8), 1], off2_eq c 0⟩
instance (c : Dev nD) : ClosedOff (k0_off2 c 1#32) := ⟨![256 * ((c.val + 1) % 8), 1], off2_eq c 1⟩
instance (c : Dev nD) : ClosedOff (k0_off2 c 2#32) := ⟨![256 * ((c.val + 2) % 8), 1], off2_eq c 2⟩
instance (c : Dev nD) : ClosedOff (k0_off2 c 3#32) := ⟨![256 * ((c.val + 3) % 8), 1], off2_eq c 3⟩
instance (c : Dev nD) : ClosedOff (k0_off2 c 4#32) := ⟨![256 * ((c.val + 4) % 8), 1], off2_eq c 4⟩
instance (c : Dev nD) : ClosedOff (k0_off2 c 5#32) := ⟨![256 * ((c.val + 5) % 8), 1], off2_eq c 5⟩
instance (c : Dev nD) : ClosedOff (k0_off2 c 6#32) := ⟨![256 * ((c.val + 6) % 8), 1], off2_eq c 6⟩
instance (c : Dev nD) : ClosedOff (k0_off2 c 7#32) := ⟨![256 * ((c.val + 7) % 8), 1], off2_eq c 7⟩
instance (c : Dev nD) : ClosedOff (k0_off3 c 0#32) := ⟨![256 * ((c.val + 0) % 8), 0], off3_eq c 0⟩
instance (c : Dev nD) : ClosedOff (k0_off3 c 1#32) := ⟨![256 * ((c.val + 1) % 8), 0], off3_eq c 1⟩
instance (c : Dev nD) : ClosedOff (k0_off3 c 2#32) := ⟨![256 * ((c.val + 2) % 8), 0], off3_eq c 2⟩
instance (c : Dev nD) : ClosedOff (k0_off3 c 3#32) := ⟨![256 * ((c.val + 3) % 8), 0], off3_eq c 3⟩
instance (c : Dev nD) : ClosedOff (k0_off3 c 4#32) := ⟨![256 * ((c.val + 4) % 8), 0], off3_eq c 4⟩
instance (c : Dev nD) : ClosedOff (k0_off3 c 5#32) := ⟨![256 * ((c.val + 5) % 8), 0], off3_eq c 5⟩
instance (c : Dev nD) : ClosedOff (k0_off3 c 6#32) := ⟨![256 * ((c.val + 6) % 8), 0], off3_eq c 6⟩
instance (c : Dev nD) : ClosedOff (k0_off3 c 7#32) := ⟨![256 * ((c.val + 7) % 8), 0], off3_eq c 7⟩
instance (c : Dev nD) : ClosedOff (k0_off4 c 0#32) := ⟨![256 * ((c.val + 0) % 8), 0], off4_eq c 0⟩
instance (c : Dev nD) : ClosedOff (k0_off4 c 1#32) := ⟨![256 * ((c.val + 1) % 8), 0], off4_eq c 1⟩
instance (c : Dev nD) : ClosedOff (k0_off4 c 2#32) := ⟨![256 * ((c.val + 2) % 8), 0], off4_eq c 2⟩
instance (c : Dev nD) : ClosedOff (k0_off4 c 3#32) := ⟨![256 * ((c.val + 3) % 8), 0], off4_eq c 3⟩
instance (c : Dev nD) : ClosedOff (k0_off4 c 4#32) := ⟨![256 * ((c.val + 4) % 8), 0], off4_eq c 4⟩
instance (c : Dev nD) : ClosedOff (k0_off4 c 5#32) := ⟨![256 * ((c.val + 5) % 8), 0], off4_eq c 5⟩
instance (c : Dev nD) : ClosedOff (k0_off4 c 6#32) := ⟨![256 * ((c.val + 6) % 8), 0], off4_eq c 6⟩
instance (c : Dev nD) : ClosedOff (k0_off4 c 7#32) := ⟨![256 * ((c.val + 7) % 8), 0], off4_eq c 7⟩

/-! ## Buffers, slots and cells -/

abbrev sendM : Memref sig .tc .vmem S7x129x1024 .bf16 := Memref.whole cc0_scratch3
abbrev recvM : Memref sig .tc .vmem S7x129x1024 .bf16 := Memref.whole cc0_scratch4

/-- Slot `j` lies inside the seven. -/
theorem slot_inb (j : Fin 7) : ∀ a, (![j.val, 0, 0] : Fin 3 → Nat) a + S1x129x1024.size a ≤ S7x129x1024.size a := by
  revert j; decide
/-- Slot `j` of the send or of the receive buffer. -/
abbrev slotR (j : Fin 7) : Rect S7x129x1024 := Rect.unit (s := S7x129x1024) ![j.val, 0, 0] S1x129x1024.size (slot_inb j)

/-- Slot `j` of the send buffer and of the receive buffer as the transfers name them. -/
abbrev sendSlot (j : Fin 7) : Memref sig .tc .vmem S129x1024 .bf16 :=
  (sendM.slice (slotR j) (fun _ => rfl)).squeeze S129x1024 squeezes_S1x129x1024_S129x1024
abbrev recvSlot (j : Fin 7) : Memref sig .tc .vmem S129x1024 .bf16 :=
  (recvM.slice (slotR j) (fun _ => rfl)).squeeze S129x1024 squeezes_S1x129x1024_S129x1024

abbrev barS : Sem sig := (SemArray.scalar (sig.barrier 0 rfl) : Sems sig S_).sem
/-- The departure semaphore, the arrival semaphore of message `j`; the semaphore of weight load `j`. -/
def sendS (j : Fin 7) : DmaSem sig := ⟨4 + j.val, by have := j.isLt; show 4 + j.val < 26; omega⟩
def recvS (j : Fin 7) : DmaSem sig := ⟨11 + j.val, by have := j.isLt; show 11 + j.val < 26; omega⟩
def loadS (j : Fin 8) : DmaSem sig := ⟨18 + j.val, by have := j.isLt; show 18 + j.val < 26; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))
abbrev loadCell (c : Dev nD) (j : Fin 8) : GSem nD τ sig := ((c : Thread nD τ), .dma (loadS j))

/-- The credit of one message: the same for every slot. -/
def N : ℕ := (recvSlot 0).view.dmaCredit
theorem N_pos : 0 < N := View.dmaCredit_pos _ (by decide)

/-! ## What the slots hold -/

/-- Slot `j` of `c`'s send buffer and of its receive buffer, at contents `f`. -/
def sendPts (c : Dev nD) (j : Fin 7) (f : Buf (Elt F) (sendM.view.loc (c : Thread nD τ))) : sProp 𝕄 :=
  sendM.view.loc (c : Thread nD τ) ↦[sendM.view.setOn (slotR j).set]{fullShare} f
def recvPts (c : Dev nD) (j : Fin 7) (f : Buf (Elt F) (recvM.view.loc (c : Thread nD τ))) : sProp 𝕄 :=
  recvM.view.loc (c : Thread nD τ) ↦[recvM.view.setOn (slotR j).set]{fullShare} f

abbrev loadM : Memref sig .tc .vmem S8x512x1024 .f32 := Memref.whole cc0_scratch5
theorem load_inb (j : Fin 8) : ∀ a, (![j.val, 0, 0] : Fin 3 → Nat) a + S1x512x1024.size a ≤ S8x512x1024.size a := by
  revert j; decide
/-- The weight matrix `j` of the buffer the eight local weights are loaded into. -/
abbrev loadR (j : Fin 8) : Rect S8x512x1024 := Rect.unit (s := S8x512x1024) ![j.val, 0, 0] S1x512x1024.size (load_inb j)
def loadPts (c : Dev nD) (j : Fin 8) (f : Buf (Elt F) (loadM.view.loc (c : Thread nD τ))) : sProp 𝕄 :=
  loadM.view.loc (c : Thread nD τ) ↦[loadM.view.setOn (loadR j).set]{fullShare} f

omit [FloatOps F] in
instance sendPts_storable (c : Dev nD) (j : Fin 7) (f) : BI.Storable (upEmb : UEmb _ 𝕄) (sendPts (F := F) c j f) := by
  unfold sendPts; infer_instance
omit [FloatOps F] in
instance recvPts_storable (c : Dev nD) (j : Fin 7) (f) : BI.Storable (upEmb : UEmb _ 𝕄) (recvPts (F := F) c j f) := by
  unfold recvPts; infer_instance

/-- A receive buffer every slot of which reads `v`: what is said of one slot mentions that slot only. -/
def landing (c : Dev nD) (v : Vec F S129x1024 .bf16) : Buf (Elt F) (recvM.view.loc (c : Thread nD τ)) :=
  fun i => v (ix2 (n0 := 129) (n1 := 1024) ((i : S7x129x1024.Idx) 1) ((i : S7x129x1024.Idx) 2))

variable (M : Dev nD → Fin 7 → Vec F S129x1024 .bf16)

/-! ## The schedule -/

/-- Duty `j` of `c`'s barrier cell: the receive slot `c` will fill at the device that pays it. -/
def barPay (c : Dev nD) (j : Fin 7) : sProp 𝕄 :=
  iprop((∃ f, recvPts (peer j.rev c) j.rev f) ∗ reached ER (recvCell (peer j.rev c) j.rev) 0)
def sendPay (c : Dev nD) (j : Fin 7) : sProp 𝕄 := iprop(∃ f, sendPts c j f)
def recvPay (c : Dev nD) (j : Fin 7) : sProp 𝕄 := recvPts c j (landing c (M (peer j.rev c) j))

/-- Which message a departure or an arrival semaphore belongs to. -/
def sendIx (q : DmaSem sig) : Fin 7 := ⟨(q.val - 4) % 7, Nat.mod_lt _ (by decide)⟩
def recvIx (q : DmaSem sig) : Fin 7 := ⟨(q.val - 11) % 7, Nat.mod_lt _ (by decide)⟩
def IsSend (q : DmaSem sig) : Prop := 4 ≤ q.val ∧ q.val < 11
def IsRecv (q : DmaSem sig) : Prop := 11 ≤ q.val ∧ q.val < 18
instance (q : DmaSem sig) : Decidable (IsSend q) := by unfold IsSend; infer_instance
instance (q : DmaSem sig) : Decidable (IsRecv q) := by unfold IsRecv; infer_instance

theorem isSend_sendS (j : Fin 7) : IsSend (sendS j) := by revert j; decide
theorem isRecv_recvS (j : Fin 7) : IsRecv (recvS j) := by revert j; decide
theorem not_isSend_recvS (j : Fin 7) : ¬ IsSend (recvS j) := by revert j; decide
theorem not_isRecv_sendS (j : Fin 7) : ¬ IsRecv (sendS j) := by revert j; decide
theorem not_isRecv_loadS (j : Fin 8) : ¬ IsRecv (loadS j) := by revert j; decide
theorem sendIx_sendS (j : Fin 7) : sendIx (sendS j) = j := by revert j; decide
theorem recvIx_recvS (j : Fin 7) : recvIx (recvS j) = j := by revert j; decide

/-- One round per cell. -/
def rd : Rounds.Schedule (GSem nD τ sig) (Fin 7) 𝕄 where
  duties g r :=
    if r = 0 ∧ g.1.2 = .tc then
      (match g.2 with
        | .reg _ => Finset.univ
        | .dma q => if IsSend q ∨ IsRecv q then {0} else ∅)
    else ∅
  unitless _ := False
  amount g _ _ := match g.2 with
    | .reg _ => 1
    | .dma _ => N
  payload g _ d := match g.2 with
    | .reg _ => barPay g.1.1 d
    | .dma q => if IsRecv q then recvPay M g.1.1 (recvIx q) else sendPay g.1.1 (sendIx q)
  amount_pos g _ _ _ := by
    rcases g with ⟨_, _ | _⟩
    · exact Nat.one_pos
    · exact N_pos

omit [FloatOps F] in
instance rd_payload_storable (g : GSem nD τ sig) (r : ℕ) (d : Fin 7) :
    BI.Storable (upEmb : UEmb _ 𝕄) ((rd (F := F) M).payload g r d) := by
  rcases g with ⟨t, _ | q⟩
  · show BI.Storable upEmb (barPay t.1 d)
    unfold barPay
    infer_instance
  · show BI.Storable upEmb (if IsRecv q then recvPay M t.1 (recvIx q) else sendPay t.1 (sendIx q))
    unfold recvPay sendPay
    split <;> infer_instance

section Tables
variable (c : Dev nD) (j : Fin 7)

omit [FloatOps F] in
theorem duties_bar : (rd (F := F) M).duties (barCell c) 0 = {0, 1, 2, 3, 4, 5, 6} := by
  show (if 0 = 0 ∧ (c : Thread nD τ).2 = .tc then Finset.univ else ∅) = _
  rw [if_pos ⟨rfl, rfl⟩]; decide
omit [FloatOps F] in
theorem duties_send : (rd (F := F) M).duties (sendCell c j) 0 = {0} := by
  show (if 0 = 0 ∧ (c : Thread nD τ).2 = .tc then (if IsSend (sendS j) ∨ IsRecv (sendS j) then ({0} : Finset (Fin 7)) else ∅) else ∅) = _
  rw [if_pos ⟨rfl, rfl⟩, if_pos (Or.inl (isSend_sendS j))]
omit [FloatOps F] in
theorem duties_recv : (rd (F := F) M).duties (recvCell c j) 0 = {0} := by
  show (if 0 = 0 ∧ (c : Thread nD τ).2 = .tc then (if IsSend (recvS j) ∨ IsRecv (recvS j) then ({0} : Finset (Fin 7)) else ∅) else ∅) = _
  rw [if_pos ⟨rfl, rfl⟩, if_pos (Or.inr (isRecv_recvS j))]
omit [FloatOps F] in
theorem duties_later (g : GSem nD τ sig) : ∀ r, 1 ≤ r → (rd (F := F) M).duties g r = ∅ :=
  fun r hr => if_neg fun h => by omega

omit [FloatOps F] in
theorem amount_bar (d : Fin 7) : (rd (F := F) M).amount (barCell c) 0 d = 1 := rfl
omit [FloatOps F] in
theorem amount_send (d : Fin 7) : (rd (F := F) M).amount (sendCell c j) 0 d = N := rfl
omit [FloatOps F] in
theorem amount_recv (d : Fin 7) : (rd (F := F) M).amount (recvCell c j) 0 d = N := rfl

omit [FloatOps F] in
theorem expect_bar : (rd (F := F) M).expect (barCell c) 0 = 7 := by
  unfold Schedule.expect Schedule.amountOf
  rw [duties_bar, Finset.sum_congr rfl fun d _ => amount_bar M c d]; decide
omit [FloatOps F] in
theorem expect_send : (rd (F := F) M).expect (sendCell c j) 0 = N := by
  unfold Schedule.expect Schedule.amountOf; rw [duties_send, Finset.sum_singleton, amount_send]
omit [FloatOps F] in
theorem expect_recv : (rd (F := F) M).expect (recvCell c j) 0 = N := by
  unfold Schedule.expect Schedule.amountOf; rw [duties_recv, Finset.sum_singleton, amount_recv]

omit [FloatOps F] in
theorem payload_bar (d : Fin 7) : (rd (F := F) M).payload (barCell c) 0 d = barPay c d := rfl
omit [FloatOps F] in
theorem payload_send (d : Fin 7) : (rd (F := F) M).payload (sendCell c j) 0 d = sendPay c j := by
  show (if IsRecv (sendS j) then recvPay M c (recvIx (sendS j)) else sendPay c (sendIx (sendS j))) = _
  rw [if_neg (not_isRecv_sendS j), sendIx_sendS]
omit [FloatOps F] in
theorem payload_recv (d : Fin 7) : (rd (F := F) M).payload (recvCell c j) 0 d = recvPay M c j := by
  show (if IsRecv (recvS j) then recvPay M c (recvIx (recvS j)) else sendPay c (sendIx (recvS j))) = _
  rw [if_pos (isRecv_recvS j), recvIx_recvS]

end Tables

/-! ## Dues and levels -/

/-- What `c` still owes its peers' arrival cells when `r` of its seven messages are still to be sent. -/
def rem (c : Dev nD) : ℕ → CellTallies nD τ sig Unit
  | 0 => 0
  | r + 1 => rem c r + tallyAt (recvCell (peer (Fin.ofNat 7 (6 - r)) c) (Fin.ofNat 7 (6 - r))) () N
/-- The same with `r` of the seven barrier signals still to be given. -/
def dues (c : Dev nD) : ℕ → CellTallies nD τ sig Unit
  | 0 => rem c 7
  | r + 1 => dues c r + tallyAt (barCell (peer (Fin.ofNat 7 (6 - r)) c)) () 1
/-- What `c` owes at launch. -/
def O₀ (c : Dev nD) : CellTallies nD τ sig Unit := dues c 7

def L (g : GSem nD τ sig) : Finset Unit := if g.1.2 = .tc then {()} else ∅
/-- Barrier cells at level 1, arrival cells at 2, everything else at 0. -/
def lv (g : GSem nD τ sig) (_ : Unit) : ℕ := match g.2 with
  | .reg _ => 1
  | .dma q => if IsRecv q then 2 else 0

theorem L_of_ne (g : GSem nD τ sig) (h : g.1.2 ≠ .tc) : L g = ∅ := if_neg h
theorem L_tc (c : Dev nD) (sm : SemLoc sig) : L ((c : Thread nD τ), sm) = {()} := if_pos rfl

theorem rem_pos {c : Dev nD} {r : ℕ} {g : GSem nD τ sig} {u : Unit} (h : 0 < rem c r g u) : ∃ d j, g = recvCell d j := by
  induction r with
  | zero => exact absurd h (by simp [rem])
  | succ r ih =>
    rw [rem, Pi.add_apply, Finsupp.add_apply, tallyAt_apply] at h
    by_cases hg : g = recvCell (peer (Fin.ofNat 7 (6 - r)) c) (Fin.ofNat 7 (6 - r)) ∧ u = ()
    · exact ⟨_, _, hg.1⟩
    · rw [if_neg hg, Nat.add_zero] at h; exact ih h

theorem dues_pos {c : Dev nD} {r : ℕ} {g : GSem nD τ sig} {u : Unit} (h : 0 < dues c r g u) :
    (∃ d j, g = recvCell d j) ∨ ∃ d, g = barCell d := by
  induction r with
  | zero => exact Or.inl (rem_pos h)
  | succ r ih =>
    rw [dues, Pi.add_apply, Finsupp.add_apply, tallyAt_apply] at h
    by_cases hg : g = barCell (peer (Fin.ofNat 7 (6 - r)) c) ∧ u = ()
    · exact Or.inr ⟨_, hg.1⟩
    · rw [if_neg hg, Nat.add_zero] at h; exact ih h

theorem lv_recv (d : Dev nD) (j : Fin 7) (u : Unit) : lv (recvCell d j) u = 2 := if_pos (isRecv_recvS j)
theorem lv_bar (d : Dev nD) (u : Unit) : lv (barCell d) u = 1 := rfl
theorem lv_dma (d : Dev nD) (q : DmaSem sig) (h : ¬ IsRecv q) (u : Unit) : lv ((d : Thread nD τ), .dma q) u = 0 := if_neg h

omit [FloatOps F] in
/-- A device may wait on any of its DMA semaphores other than an arrival one, whatever it owes of its launch dues. -/
theorem mayWait_dma (c : Dev nD) (q : DmaSem sig) (hq : ¬ IsRecv q) (r : ℕ) :
    (levAts L lv : sProp 𝕄) ⊢ MayWait (c : Thread nD τ) (.dma q) () (dues c r) :=
  MayOwe.of_cut (L := L) (lev := lv) 0 (fun p hp => by rw [Finset.mem_singleton.mp hp, L_tc]; exact Finset.mem_singleton_self _)
    (fun g u hg => by rcases dues_pos hg with ⟨d, j, rfl⟩ | ⟨d, rfl⟩ <;> exact Finset.mem_singleton_self _)
    (fun p hp => by rw [Finset.mem_singleton.mp hp, lv_dma c q hq])
    (fun g u hg => by
      rcases dues_pos hg with ⟨d, j, rfl⟩ | ⟨d, rfl⟩
      · rw [lv_recv]; decide
      · rw [lv_bar]; decide)

omit [FloatOps F] in
/-- At its barrier wait a device owes arrival cells only, which stand above its barrier cell. -/
theorem mayWait_bar (c : Dev nD) (r : ℕ) :
    (levAts L lv : sProp 𝕄) ⊢ MayWait (c : Thread nD τ) (.reg barS) () (rem c r) :=
  MayOwe.of_cut (L := L) (lev := lv) 1 (fun p hp => by rw [Finset.mem_singleton.mp hp, L_tc]; exact Finset.mem_singleton_self _)
    (fun g u hg => by rcases rem_pos hg with ⟨d, j, rfl⟩; exact Finset.mem_singleton_self _)
    (fun p hp => by rw [Finset.mem_singleton.mp hp]; exact le_of_eq (lv_bar c ()))
    (fun g u hg => by rcases rem_pos hg with ⟨d, j, rfl⟩; rw [lv_recv]; decide)

omit [FloatOps F] in
/-- Between its barrier and its first message a device may wait on any DMA semaphore other than an arrival one. -/
theorem mayWait_own (c : Dev nD) (q : DmaSem sig) (hq : ¬ IsRecv q) :
    (levAts L lv : sProp 𝕄) ⊢ MayWait (c : Thread nD τ) (.dma q) () (rem c 7) :=
  mayWait_dma c q hq 0

end Cert.KernelIdeal.Moe

end
-- ==== Proof.KernelIdeal.Steps.lean ====
module

public import proofs.«01_k».proof.Proof.KernelIdeal.Protocol
public import Idealize.ShloMosaic.Lib.ViewIndex
public import Idealize.ShloMosaic.Lib.ValueLayout

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Tactic

variable {F : FTy → Type} [FloatOps F]

local notation "𝕄" => MT nD τ sig Unit (Elt F) ℕ UU ℕ

variable (M : Dev nD → Fin 7 → Vec F S129x1024 .bf16)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The names the cells' invariants were allocated at: barrier, departure, arrival. -/
structure Names where
  bar : Dev nD → ℕ
  send : Dev nD → Fin 7 → ℕ
  recv : Dev nD → Fin 7 → ℕ

variable (K : Names)

def invs (c : Dev nD) : sProp 𝕄 :=
  iprop(cellInv ER (rd M) (K.bar c) (barCell c)
    ∗ (bigSep Finset.univ fun j => cellInv ER (rd M) (K.send c j) (sendCell c j))
    ∗ (bigSep Finset.univ fun j => cellInv ER (rd M) (K.recv c j) (recvCell c j))
    ∗ (bigSep Finset.univ fun j => cellInv ER (rd M) (K.bar (peer j c)) (barCell (peer j c)))
    ∗ (bigSep Finset.univ fun j => cellInv ER (rd M) (K.recv (peer j c) j) (recvCell (peer j c) j)))

def marks (c : Dev nD) : sProp 𝕄 :=
  iprop((bigSep Finset.univ fun j => reached ER (barCell (peer j c)) 0)
    ∗ (bigSep Finset.univ fun j => reached ER (sendCell c j) 0)
    ∗ (bigSep Finset.univ fun j => reached ER (recvCell c j) 0)
    ∗ (bigSep Finset.univ fun j => reached ER (recvCell (peer j c) j) 0))

def places (c : Dev nD) : sProp 𝕄 :=
  iprop(atPos ER (barCell c) 0 ∅ 0
    ∗ (bigSep Finset.univ fun j => atPos ER (sendCell c j) 0 ∅ 0)
    ∗ (bigSep Finset.univ fun j => atPos ER (recvCell c j) 0 ∅ 0))

def tokens (c : Dev nD) : sProp 𝕄 :=
  iprop((bigSep Finset.univ fun j => dutyTok ER (barCell (peer j c)) 0 j)
    ∗ (bigSep Finset.univ fun j => dutyTok ER (sendCell c j) 0 0)
    ∗ (bigSep Finset.univ fun j => dutyTok ER (recvCell (peer j c) j) 0 0))

instance invs_persistent (c : Dev nD) : BI.Persistent (invs M K c) := by unfold invs; infer_instance
instance marks_persistent (c : Dev nD) : BI.Persistent (marks (F := F) c) := by unfold marks; infer_instance

def credits (c : Dev nD) : sProp 𝕄 :=
  iprop(cred (tallyAt (barCell c) () 7) ∗ bigSep Finset.univ fun j => cred (tallyAt (recvCell c j) () N))

section Literal
variable (c : Dev nD)
omit [FloatOps F] in
theorem pay_bar_0 : (rd (F := F) M).payload (barCell c) 0 0 = iprop((∃ f, recvM.view.loc (peer 6 c : Thread nD τ)
    ↦[recvM.view.setOn (Rect.unit (s := S7x129x1024) ![6, 0, 0] S1x129x1024.size inb_S7x129x1024_S1x129x1024_6_0_0).set]{fullShare} f)
  ∗ reached ER (recvCell (peer 6 c) 6) 0) := rfl
omit [FloatOps F] in
theorem pay_bar_1 : (rd (F := F) M).payload (barCell c) 0 1 = iprop((∃ f, recvM.view.loc (peer 5 c : Thread nD τ)
    ↦[recvM.view.setOn (Rect.unit (s := S7x129x1024) ![5, 0, 0] S1x129x1024.size inb_S7x129x1024_S1x129x1024_5_0_0).set]{fullShare} f)
  ∗ reached ER (recvCell (peer 5 c) 5) 0) := rfl
omit [FloatOps F] in
theorem pay_bar_2 : (rd (F := F) M).payload (barCell c) 0 2 = iprop((∃ f, recvM.view.loc (peer 4 c : Thread nD τ)
    ↦[recvM.view.setOn (Rect.unit (s := S7x129x1024) ![4, 0, 0] S1x129x1024.size inb_S7x129x1024_S1x129x1024_4_0_0).set]{fullShare} f)
  ∗ reached ER (recvCell (peer 4 c) 4) 0) := rfl
omit [FloatOps F] in
theorem pay_bar_3 : (rd (F := F) M).payload (barCell c) 0 3 = iprop((∃ f, recvM.view.loc (peer 3 c : Thread nD τ)
    ↦[recvM.view.setOn (Rect.unit (s := S7x129x1024) ![3, 0, 0] S1x129x1024.size inb_S7x129x1024_S1x129x1024_3_0_0).set]{fullShare} f)
  ∗ reached ER (recvCell (peer 3 c) 3) 0) := rfl
omit [FloatOps F] in
theorem pay_bar_4 : (rd (F := F) M).payload (barCell c) 0 4 = iprop((∃ f, recvM.view.loc (peer 2 c : Thread nD τ)
    ↦[recvM.view.setOn (Rect.unit (s := S7x129x1024) ![2, 0, 0] S1x129x1024.size inb_S7x129x1024_S1x129x1024_2_0_0).set]{fullShare} f)
  ∗ reached ER (recvCell (peer 2 c) 2) 0) := rfl
omit [FloatOps F] in
theorem pay_bar_5 : (rd (F := F) M).payload (barCell c) 0 5 = iprop((∃ f, recvM.view.loc (peer 1 c : Thread nD τ)
    ↦[recvM.view.setOn (Rect.unit (s := S7x129x1024) ![1, 0, 0] S1x129x1024.size inb_S7x129x1024_S1x129x1024_1_0_0).set]{fullShare} f)
  ∗ reached ER (recvCell (peer 1 c) 1) 0) := rfl
omit [FloatOps F] in
theorem pay_bar_6 : (rd (F := F) M).payload (barCell c) 0 6 = iprop((∃ f, recvM.view.loc (peer 0 c : Thread nD τ)
    ↦[recvM.view.setOn (Rect.unit (s := S7x129x1024) ![0, 0, 0] S1x129x1024.size inb_S7x129x1024_S1x129x1024_0_0_0).set]{fullShare} f)
  ∗ reached ER (recvCell (peer 0 c) 0) 0) := rfl
omit [FloatOps F] in
theorem pay_send_0 : (rd (F := F) M).payload (sendCell c 0) 0 0 = iprop(∃ f, sendM.view.loc (c : Thread nD τ)
    ↦[sendM.view.setOn (Rect.unit (s := S7x129x1024) ![0, 0, 0] S1x129x1024.size inb_S7x129x1024_S1x129x1024_0_0_0).set]{fullShare} f) := payload_send M c 0 0
omit [FloatOps F] in
theorem pay_recv_0 : (rd (F := F) M).payload (recvCell c 0) 0 0 = iprop(recvM.view.loc (c : Thread nD τ)
    ↦[recvM.view.setOn (Rect.unit (s := S7x129x1024) ![0, 0, 0] S1x129x1024.size inb_S7x129x1024_S1x129x1024_0_0_0).set]{fullShare} landing c (M (peer 6 c) 0)) := payload_recv M c 0 0
omit [FloatOps F] in
theorem pay_send_1 : (rd (F := F) M).payload (sendCell c 1) 0 0 = iprop(∃ f, sendM.view.loc (c : Thread nD τ)
    ↦[sendM.view.setOn (Rect.unit (s := S7x129x1024) ![1, 0, 0] S1x129x1024.size inb_S7x129x1024_S1x129x1024_1_0_0).set]{fullShare} f) := payload_send M c 1 0
omit [FloatOps F] in
theorem pay_recv_1 : (rd (F := F) M).payload (recvCell c 1) 0 0 = iprop(recvM.view.loc (c : Thread nD τ)
    ↦[recvM.view.setOn (Rect.unit (s := S7x129x1024) ![1, 0, 0] S1x129x1024.size inb_S7x129x1024_S1x129x1024_1_0_0).set]{fullShare} landing c (M (peer 5 c) 1)) := payload_recv M c 1 0
omit [FloatOps F] in
theorem pay_send_2 : (rd (F := F) M).payload (sendCell c 2) 0 0 = iprop(∃ f, sendM.view.loc (c : Thread nD τ)
    ↦[sendM.view.setOn (Rect.unit (s := S7x129x1024) ![2, 0, 0] S1x129x1024.size inb_S7x129x1024_S1x129x1024_2_0_0).set]{fullShare} f) := payload_send M c 2 0
omit [FloatOps F] in
theorem pay_recv_2 : (rd (F := F) M).payload (recvCell c 2) 0 0 = iprop(recvM.view.loc (c : Thread nD τ)
    ↦[recvM.view.setOn (Rect.unit (s := S7x129x1024) ![2, 0, 0] S1x129x1024.size inb_S7x129x1024_S1x129x1024_2_0_0).set]{fullShare} landing c (M (peer 4 c) 2)) := payload_recv M c 2 0
omit [FloatOps F] in
theorem pay_send_3 : (rd (F := F) M).payload (sendCell c 3) 0 0 = iprop(∃ f, sendM.view.loc (c : Thread nD τ)
    ↦[sendM.view.setOn (Rect.unit (s := S7x129x1024) ![3, 0, 0] S1x129x1024.size inb_S7x129x1024_S1x129x1024_3_0_0).set]{fullShare} f) := payload_send M c 3 0
omit [FloatOps F] in
theorem pay_recv_3 : (rd (F := F) M).payload (recvCell c 3) 0 0 = iprop(recvM.view.loc (c : Thread nD τ)
    ↦[recvM.view.setOn (Rect.unit (s := S7x129x1024) ![3, 0, 0] S1x129x1024.size inb_S7x129x1024_S1x129x1024_3_0_0).set]{fullShare} landing c (M (peer 3 c) 3)) := payload_recv M c 3 0
omit [FloatOps F] in
theorem pay_send_4 : (rd (F := F) M).payload (sendCell c 4) 0 0 = iprop(∃ f, sendM.view.loc (c : Thread nD τ)
    ↦[sendM.view.setOn (Rect.unit (s := S7x129x1024) ![4, 0, 0] S1x129x1024.size inb_S7x129x1024_S1x129x1024_4_0_0).set]{fullShare} f) := payload_send M c 4 0
omit [FloatOps F] in
theorem pay_recv_4 : (rd (F := F) M).payload (recvCell c 4) 0 0 = iprop(recvM.view.loc (c : Thread nD τ)
    ↦[recvM.view.setOn (Rect.unit (s := S7x129x1024) ![4, 0, 0] S1x129x1024.size inb_S7x129x1024_S1x129x1024_4_0_0).set]{fullShare} landing c (M (peer 2 c) 4)) := payload_recv M c 4 0
omit [FloatOps F] in
theorem pay_send_5 : (rd (F := F) M).payload (sendCell c 5) 0 0 = iprop(∃ f, sendM.view.loc (c : Thread nD τ)
    ↦[sendM.view.setOn (Rect.unit (s := S7x129x1024) ![5, 0, 0] S1x129x1024.size inb_S7x129x1024_S1x129x1024_5_0_0).set]{fullShare} f) := payload_send M c 5 0
omit [FloatOps F] in
theorem pay_recv_5 : (rd (F := F) M).payload (recvCell c 5) 0 0 = iprop(recvM.view.loc (c : Thread nD τ)
    ↦[recvM.view.setOn (Rect.unit (s := S7x129x1024) ![5, 0, 0] S1x129x1024.size inb_S7x129x1024_S1x129x1024_5_0_0).set]{fullShare} landing c (M (peer 1 c) 5)) := payload_recv M c 5 0
omit [FloatOps F] in
theorem pay_send_6 : (rd (F := F) M).payload (sendCell c 6) 0 0 = iprop(∃ f, sendM.view.loc (c : Thread nD τ)
    ↦[sendM.view.setOn (Rect.unit (s := S7x129x1024) ![6, 0, 0] S1x129x1024.size inb_S7x129x1024_S1x129x1024_6_0_0).set]{fullShare} f) := payload_send M c 6 0
omit [FloatOps F] in
theorem pay_recv_6 : (rd (F := F) M).payload (recvCell c 6) 0 0 = iprop(recvM.view.loc (c : Thread nD τ)
    ↦[recvM.view.setOn (Rect.unit (s := S7x129x1024) ![6, 0, 0] S1x129x1024.size inb_S7x129x1024_S1x129x1024_6_0_0).set]{fullShare} landing c (M (peer 0 c) 6)) := payload_recv M c 6 0
omit [FloatOps F] in
theorem pay_peer_0 : (rd (F := F) M).payload (barCell (peer 0 c)) 0 0 = iprop((∃ f, recvM.view.loc (c : Thread nD τ)
    ↦[recvM.view.setOn (Rect.unit (s := S7x129x1024) ![6, 0, 0] S1x129x1024.size inb_S7x129x1024_S1x129x1024_6_0_0).set]{fullShare} f)
  ∗ reached ER (recvCell c 6) 0) := by
  have h := peer_rev_peer 0 c
  show barPay (peer 0 c) 0 = _
  unfold barPay; rw [h]; rfl
omit [FloatOps F] in
theorem pay_peer_1 : (rd (F := F) M).payload (barCell (peer 1 c)) 0 1 = iprop((∃ f, recvM.view.loc (c : Thread nD τ)
    ↦[recvM.view.setOn (Rect.unit (s := S7x129x1024) ![5, 0, 0] S1x129x1024.size inb_S7x129x1024_S1x129x1024_5_0_0).set]{fullShare} f)
  ∗ reached ER (recvCell c 5) 0) := by
  have h := peer_rev_peer 1 c
  show barPay (peer 1 c) 1 = _
  unfold barPay; rw [h]; rfl
omit [FloatOps F] in
theorem pay_peer_2 : (rd (F := F) M).payload (barCell (peer 2 c)) 0 2 = iprop((∃ f, recvM.view.loc (c : Thread nD τ)
    ↦[recvM.view.setOn (Rect.unit (s := S7x129x1024) ![4, 0, 0] S1x129x1024.size inb_S7x129x1024_S1x129x1024_4_0_0).set]{fullShare} f)
  ∗ reached ER (recvCell c 4) 0) := by
  have h := peer_rev_peer 2 c
  show barPay (peer 2 c) 2 = _
  unfold barPay; rw [h]; rfl
omit [FloatOps F] in
theorem pay_peer_3 : (rd (F := F) M).payload (barCell (peer 3 c)) 0 3 = iprop((∃ f, recvM.view.loc (c : Thread nD τ)
    ↦[recvM.view.setOn (Rect.unit (s := S7x129x1024) ![3, 0, 0] S1x129x1024.size inb_S7x129x1024_S1x129x1024_3_0_0).set]{fullShare} f)
  ∗ reached ER (recvCell c 3) 0) := by
  have h := peer_rev_peer 3 c
  show barPay (peer 3 c) 3 = _
  unfold barPay; rw [h]; rfl
omit [FloatOps F] in
theorem pay_peer_4 : (rd (F := F) M).payload (barCell (peer 4 c)) 0 4 = iprop((∃ f, recvM.view.loc (c : Thread nD τ)
    ↦[recvM.view.setOn (Rect.unit (s := S7x129x1024) ![2, 0, 0] S1x129x1024.size inb_S7x129x1024_S1x129x1024_2_0_0).set]{fullShare} f)
  ∗ reached ER (recvCell c 2) 0) := by
  have h := peer_rev_peer 4 c
  show barPay (peer 4 c) 4 = _
  unfold barPay; rw [h]; rfl
omit [FloatOps F] in
theorem pay_peer_5 : (rd (F := F) M).payload (barCell (peer 5 c)) 0 5 = iprop((∃ f, recvM.view.loc (c : Thread nD τ)
    ↦[recvM.view.setOn (Rect.unit (s := S7x129x1024) ![1, 0, 0] S1x129x1024.size inb_S7x129x1024_S1x129x1024_1_0_0).set]{fullShare} f)
  ∗ reached ER (recvCell c 1) 0) := by
  have h := peer_rev_peer 5 c
  show barPay (peer 5 c) 5 = _
  unfold barPay; rw [h]; rfl
omit [FloatOps F] in
theorem pay_peer_6 : (rd (F := F) M).payload (barCell (peer 6 c)) 0 6 = iprop((∃ f, recvM.view.loc (c : Thread nD τ)
    ↦[recvM.view.setOn (Rect.unit (s := S7x129x1024) ![0, 0, 0] S1x129x1024.size inb_S7x129x1024_S1x129x1024_0_0_0).set]{fullShare} f)
  ∗ reached ER (recvCell c 0) 0) := by
  have h := peer_rev_peer 6 c
  show barPay (peer 6 c) 6 = _
  unfold barPay; rw [h]; rfl
end Literal

/-! ## Sending a message -/

omit [FloatOps F] in
/-- The window of message slot `j`, as the transfers name it, is the slot's rectangle. -/
theorem sendSlot_set (j : Fin 7) : (sendSlot j).view.set = sendM.view.setOn (slotR j).set := by
  rw [Memref.set_view_squeeze]; exact View.set_slice _ _
omit [FloatOps F] in
theorem recvSlot_set (j : Fin 7) : (recvSlot j).view.set = recvM.view.setOn (slotR j).set := by
  rw [Memref.set_view_squeeze]; exact View.set_slice _ _

omit [FloatOps F] in
/-- Every slot of a receive buffer at `landing c v` reads `v`. -/
theorem read_landing (c : Dev nD) (j : Fin 7) (v : Vec F S129x1024 .bf16) : (recvSlot j).view.read (Elt F) (landing c v) = v := by
  funext x
  obtain ⟨a, b, rfl⟩ : ∃ (a : Fin 129) (b : Fin 1024), x = ix2 a b := ⟨x 0, x 1, eq_ix2 x⟩
  show v (ix2 ((Rect.emb (slotR j) (Shape.reshapeEquiv _ (ix2 a b))) 1) ((Rect.emb (slotR j) (Shape.reshapeEquiv _ (ix2 a b))) 2)) = _
  have e : Shape.reshapeEquiv (squeezes_S1x129x1024_S129x1024).numel_eq (ix2 a b) = ix3 (⟨0, Nat.one_pos⟩ : Fin 1) a b :=
    reshapeEquiv_ix2_1ab _ a b
  refine congrArg v ?_
  refine (congrArg (fun z : S1x129x1024.Idx => (ix2 (n0 := 129) (n1 := 1024) ((Rect.emb (slotR j) z) 1) ((Rect.emb (slotR j) z) 2) : S129x1024.Idx)) e).trans ?_
  refine (eq_ix2 (n0 := 129) (n1 := 1024) _).trans ?_
  refine congrArg₂ ix2 (Fin.ext ?_) (Fin.ext ?_)
  · show 0 + 1 * a.val = a.val
    omega
  · show 0 + 1 * b.val = b.val
    omega

omit [FloatOps F] in
/-- A receive slot the view of which reads `v` holds, on the slot, what `landing` says. -/
theorem recvPts_landing (c : Dev nD) (j : Fin 7) (v : Vec F S129x1024 .bf16) (f : Buf (Elt F) (recvM.view.loc (c : Thread nD τ)))
    (h : (recvSlot j).view.read (Elt F) f = v) : recvPts (F := F) c j f = recvPts c j (landing c v) := by
  unfold recvPts
  refine pointsTo_congr fun i hi => ?_
  rw [← recvSlot_set] at hi
  obtain ⟨x, -, rfl⟩ := Finset.mem_map.mp hi
  exact View.eq_of_read_eq (congrFun (h.trans (read_landing c j v).symm) x)

omit [FloatOps F] in
theorem sendPts_eq (c : Dev nD) (j : Fin 7) (f : Buf (Elt F) (sendM.view.loc (c : Thread nD τ))) :
    sendPts (F := F) c j f = ((sendSlot j).view.loc (c : Thread nD τ) ↦[(sendSlot j).view.set]{fullShare} f) := by
  unfold sendPts; rw [sendSlot_set]
omit [FloatOps F] in
theorem recvPts_eq (c : Dev nD) (j : Fin 7) (f : Buf (Elt F) (recvM.view.loc (c : Thread nD τ))) :
    recvPts (F := F) c j f = ((recvSlot j).view.loc (c : Thread nD τ) ↦[(recvSlot j).view.set]{fullShare} f) := by
  unfold recvPts; rw [recvSlot_set]

theorem recvSlot_amount (j : Fin 7) : (recvSlot j).view.amount (.dma (recvS j) : SemLoc sig) = N := by
  rfl

/-- Sending message `j` with contents `M c j`: the send slot goes to the departure cell, the peer's receive slot to its
    arrival cell, and the device owes one arrival less. -/
theorem wp_send_msg (c p : Dev nD) (j : Fin 7) (hp : p = peer j c) {hsc : (recvSlot j).view.ref.isScScratch = false}
    {hsrc : (sendSlot j).view.WordExact} {hdst : (recvSlot j).view.WordExact}
    {hsem : DmaTarget.Typed (nD := nD) (τ := τ) .vmem (.dma (recvS j)) (.remote (Dev.tc p) (recvSlot j) (.dma (sendS j)) hsc)}
    {α : Type} {k : PUnit → Prog (TpuEff nD τ sig (Elt F) Λ₀ (c : Thread nD τ).2) α} {Q : α → sProp 𝕄}
    {fs : Buf (Elt F) (sendM.view.loc (c : Thread nD τ))} {fd : Buf (Elt F) (recvM.view.loc ((peer j c : Dev nD) : Thread nD τ))}
    {O : CellTallies nD τ sig Unit} {W : Waits sig Unit} {κ₁ κ₂ : ℕ}
    (hval : (sendSlot j).view.read (Elt F) fs = M c j) :
    iprop(cellInv ER (rd M) κ₁ (sendCell c j) ∗ cellInv ER (rd M) κ₂ (recvCell (peer j c) j)
        ∗ sendPts c j fs ∗ recvPts (peer j c) j fd
        ∗ owes (c : Thread nD τ) (O + tallyAt (recvCell (peer j c) j) () N) W
        ∗ dutyTok ER (sendCell c j) 0 0 ∗ reached ER (sendCell c j) 0
        ∗ dutyTok ER (recvCell (peer j c) j) 0 0 ∗ reached ER (recvCell (peer j c) j) 0)
      ⊢ iprop(((cred (tallyAt (sendCell c j) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (sendSlot j) (.remote (Dev.tc p) (recvSlot j) (.dma (sendS j)) hsc) (.dma (recvS j)) hsrc hdst hsem) k) Q) := by
  subst hp
  rw [sendPts_eq, recvPts_eq]
  have h1 : (0 : Fin 7) ∈ (rd M).duties (sendCell c j) 0 := by rw [duties_send]; exact Finset.mem_singleton_self _
  have h2 : (0 : Fin 7) ∈ (rd M).duties (recvCell (peer j c) j) 0 := by rw [duties_recv]; exact Finset.mem_singleton_self _
  have hp1 : ((sendSlot j).view.loc (c : Thread nD τ) ↦[(sendSlot j).view.set]{fullShare} fs) ⊢ (rd M).payload (sendCell c j) 0 0 := by
    rw [payload_send, ← sendPts_eq]
    exact BIClass.exists_intro (Φ := fun f => sendPts c j f) fs
  have hp2 : ((recvSlot j).view.loc ((peer j c : Dev nD) : Thread nD τ) ↦[(recvSlot j).view.set]{fullShare}
      ((recvSlot j).view.write (Elt F) fd ((sendSlot j).view.read (Elt F) fs) Finset.univ)) ⊢ (rd M).payload (recvCell (peer j c) j) 0 0 := by
    rw [payload_recv, ← recvPts_eq, hval]
    unfold recvPay
    rw [peer_rev_peer, recvPts_landing (peer j c) j (M c j) _ (View.read_write_univ _ _)]
  exact Rounds.wp_send_pointsTo Variants.none ER (rd M) (c : Thread nD τ) none (c' := ((peer j c : Dev nD) : Thread nD τ)) (src := sendSlot j) (dst := recvSlot j) (sS := .dma (sendS j)) (sem := .dma (recvS j))
    (q := fullShare) (fs := fs) (fd := fd) (r₁ := 0) (r₂ := 0) (d₁ := 0) (d₂ := 0) (κ₁ := κ₁) (κ₂ := κ₂)
    h1 h2 () () N (recvSlot_amount j) (amount_send M c j 0) (amount_recv M (peer j c) j 0) O rfl hp1 hp2

/-- The same at the names the program gives slots, semaphores and peer: that they are message `j`'s, and what the slot
    reads, are premises. -/
theorem wp_send_at (c : Dev nD) (j : Fin 7) {p : Dev nD} {src dst : Memref sig .tc .vmem S129x1024 .bf16} {sS sem : SemLoc sig}
    {hsc : dst.view.ref.isScScratch = false} {hsrc : src.view.WordExact} {hdst : dst.view.WordExact}
    {hsem : DmaTarget.Typed (nD := nD) (τ := τ) .vmem sem (.remote (Dev.tc p) dst sS hsc)}
    {α : Type} {k : PUnit → Prog (TpuEff nD τ sig (Elt F) Λ₀ (c : Thread nD τ).2) α} {Q : α → sProp 𝕄}
    {fs : Buf (Elt F) (sendM.view.loc (c : Thread nD τ))} {fd : Buf (Elt F) (recvM.view.loc ((peer j c : Dev nD) : Thread nD τ))}
    {O : CellTallies nD τ sig Unit} {W : Waits sig Unit} {κ₁ κ₂ : ℕ}
    {S₁ : Finset sendM.view.ty.Idx} {S₂ : Finset recvM.view.ty.Idx} :
    iprop(⌜p = peer j c ∧ src = sendSlot j ∧ dst = recvSlot j ∧ sS = .dma (sendS j) ∧ sem = .dma (recvS j)⌝
        ∗ cellInv ER (rd M) κ₁ (sendCell c j) ∗ cellInv ER (rd M) κ₂ (recvCell (peer j c) j)
        ∗ (sendM.view.loc (c : Thread nD τ) ↦[S₁]{fullShare} fs)
        ∗ (recvM.view.loc ((peer j c : Dev nD) : Thread nD τ) ↦[S₂]{fullShare} fd)
        ∗ owes (c : Thread nD τ) (O + tallyAt (recvCell (peer j c) j) () N) W
        ∗ dutyTok ER (sendCell c j) 0 0 ∗ reached ER (sendCell c j) 0
        ∗ dutyTok ER (recvCell (peer j c) j) 0 0 ∗ reached ER (recvCell (peer j c) j) 0
        ∗ ⌜S₁ = sendM.view.setOn (slotR j).set ∧ S₂ = recvM.view.setOn (slotR j).set
            ∧ (sendSlot j).view.read (Elt F) fs = M c j⌝)
      ⊢ iprop(((cred (tallyAt (sendCell c j) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc p) dst sS hsc) sem hsrc hdst hsem) k) Q) := by
  iintro ⟨%he, H₁, H₂, Hs, Hd, HO, Ht₁, Hr₁, Ht₂, Hr₂, %h⟩
  obtain ⟨rfl, rfl, rfl, rfl, rfl⟩ := he
  obtain ⟨rfl, rfl, h⟩ := h
  iapply (wp_send_msg M c _ j rfl h) $$ [H₁ H₂ Hs Hd HO Ht₁ Hr₁ Ht₂ Hr₂]
  unfold sendPts recvPts
  isplitl [H₁]; · iexact H₁
  isplitl [H₂]; · iexact H₂
  isplitl [Hs]; · iexact Hs
  isplitl [Hd]; · iexact Hd
  isplitl [HO]; · iexact HO
  isplitl [Ht₁]; · iexact Ht₁
  isplitl [Hr₁]; · iexact Hr₁
  isplitl [Ht₂]; · iexact Ht₂
  iexact Hr₂

/-! ## What is owed, one due at a time -/

theorem rem_7 (c : Dev nD) : rem c 7 = rem c 6 + tallyAt (recvCell (peer 0 c) 0) () N := rfl
theorem rem_6 (c : Dev nD) : rem c 6 = rem c 5 + tallyAt (recvCell (peer 1 c) 1) () N := rfl
theorem rem_5 (c : Dev nD) : rem c 5 = rem c 4 + tallyAt (recvCell (peer 2 c) 2) () N := rfl
theorem rem_4 (c : Dev nD) : rem c 4 = rem c 3 + tallyAt (recvCell (peer 3 c) 3) () N := rfl
theorem rem_3 (c : Dev nD) : rem c 3 = rem c 2 + tallyAt (recvCell (peer 4 c) 4) () N := rfl
theorem rem_2 (c : Dev nD) : rem c 2 = rem c 1 + tallyAt (recvCell (peer 5 c) 5) () N := rfl
theorem rem_1 (c : Dev nD) : rem c 1 = rem c 0 + tallyAt (recvCell (peer 6 c) 6) () N := rfl
theorem rem_0 (c : Dev nD) : rem c 0 = 0 := rfl
theorem dues_0 (c : Dev nD) : O₀ c = dues c 6 + tallyAt (barCell (peer 0 c)) () 1 := rfl
theorem dues_1 (c : Dev nD) : dues c 6 = dues c 5 + tallyAt (barCell (peer 1 c)) () 1 := rfl
theorem dues_2 (c : Dev nD) : dues c 5 = dues c 4 + tallyAt (barCell (peer 2 c)) () 1 := rfl
theorem dues_3 (c : Dev nD) : dues c 4 = dues c 3 + tallyAt (barCell (peer 3 c)) () 1 := rfl
theorem dues_4 (c : Dev nD) : dues c 3 = dues c 2 + tallyAt (barCell (peer 4 c)) () 1 := rfl
theorem dues_5 (c : Dev nD) : dues c 2 = dues c 1 + tallyAt (barCell (peer 5 c)) () 1 := rfl
theorem dues_6 (c : Dev nD) : dues c 1 = rem c 7 + tallyAt (barCell (peer 6 c)) () 1 := rfl

omit [FloatOps F] in
/-- A separating conjunction of the model is one of the logic. -/
theorem sep_open (A B : sProp 𝕄) : Idealize.SL.BI.sep A B ⊢ iprop(A ∗ B) := Entails.rfl

omit [FloatOps F] in
/-- The invariant of the arrival cell message `j` goes to, out of all seven. -/
theorem recvInv_at (c : Dev nD) (j : Fin 7) :
    (bigSep Finset.univ fun j => cellInv ER (rd M) (K.recv (peer j c) j) (recvCell (peer j c) j))
      ⊢ (cellInv ER (rd M) (K.recv (peer j c) j) (recvCell (peer j c) j) : sProp 𝕄) := bigSep_elim (Finset.mem_univ j)

/-! ## The credit of a message as the waits on slot `j` name it -/

theorem N_eq_0 : N = ((recvM.slice (Rect.unit (s := S7x129x1024) ![0, 0, 0] S1x129x1024.size inb_S7x129x1024_S1x129x1024_0_0_0) (fun _ => rfl)).squeeze S129x1024 squeezes_S1x129x1024_S129x1024).view.dmaCredit := rfl
theorem N_eq_1 : N = ((recvM.slice (Rect.unit (s := S7x129x1024) ![1, 0, 0] S1x129x1024.size inb_S7x129x1024_S1x129x1024_1_0_0) (fun _ => rfl)).squeeze S129x1024 squeezes_S1x129x1024_S129x1024).view.dmaCredit := rfl
theorem N_eq_2 : N = ((recvM.slice (Rect.unit (s := S7x129x1024) ![2, 0, 0] S1x129x1024.size inb_S7x129x1024_S1x129x1024_2_0_0) (fun _ => rfl)).squeeze S129x1024 squeezes_S1x129x1024_S129x1024).view.dmaCredit := rfl
theorem N_eq_3 : N = ((recvM.slice (Rect.unit (s := S7x129x1024) ![3, 0, 0] S1x129x1024.size inb_S7x129x1024_S1x129x1024_3_0_0) (fun _ => rfl)).squeeze S129x1024 squeezes_S1x129x1024_S129x1024).view.dmaCredit := rfl
theorem N_eq_4 : N = ((recvM.slice (Rect.unit (s := S7x129x1024) ![4, 0, 0] S1x129x1024.size inb_S7x129x1024_S1x129x1024_4_0_0) (fun _ => rfl)).squeeze S129x1024 squeezes_S1x129x1024_S129x1024).view.dmaCredit := rfl
theorem N_eq_5 : N = ((recvM.slice (Rect.unit (s := S7x129x1024) ![5, 0, 0] S1x129x1024.size inb_S7x129x1024_S1x129x1024_5_0_0) (fun _ => rfl)).squeeze S129x1024 squeezes_S1x129x1024_S129x1024).view.dmaCredit := rfl
theorem N_eq_6 : N = ((recvM.slice (Rect.unit (s := S7x129x1024) ![6, 0, 0] S1x129x1024.size inb_S7x129x1024_S1x129x1024_6_0_0) (fun _ => rfl)).squeeze S129x1024 squeezes_S1x129x1024_S129x1024).view.dmaCredit := rfl

theorem N_send_0 : N = ((sendM.slice (Rect.unit (s := S7x129x1024) ![0, 0, 0] S1x129x1024.size inb_S7x129x1024_S1x129x1024_0_0_0) (fun _ => rfl)).squeeze S129x1024 squeezes_S1x129x1024_S129x1024).view.dmaCredit := rfl
theorem N_send_1 : N = ((sendM.slice (Rect.unit (s := S7x129x1024) ![1, 0, 0] S1x129x1024.size inb_S7x129x1024_S1x129x1024_1_0_0) (fun _ => rfl)).squeeze S129x1024 squeezes_S1x129x1024_S129x1024).view.dmaCredit := rfl
theorem N_send_2 : N = ((sendM.slice (Rect.unit (s := S7x129x1024) ![2, 0, 0] S1x129x1024.size inb_S7x129x1024_S1x129x1024_2_0_0) (fun _ => rfl)).squeeze S129x1024 squeezes_S1x129x1024_S129x1024).view.dmaCredit := rfl
theorem N_send_3 : N = ((sendM.slice (Rect.unit (s := S7x129x1024) ![3, 0, 0] S1x129x1024.size inb_S7x129x1024_S1x129x1024_3_0_0) (fun _ => rfl)).squeeze S129x1024 squeezes_S1x129x1024_S129x1024).view.dmaCredit := rfl
theorem N_send_4 : N = ((sendM.slice (Rect.unit (s := S7x129x1024) ![4, 0, 0] S1x129x1024.size inb_S7x129x1024_S1x129x1024_4_0_0) (fun _ => rfl)).squeeze S129x1024 squeezes_S1x129x1024_S129x1024).view.dmaCredit := rfl
theorem N_send_5 : N = ((sendM.slice (Rect.unit (s := S7x129x1024) ![5, 0, 0] S1x129x1024.size inb_S7x129x1024_S1x129x1024_5_0_0) (fun _ => rfl)).squeeze S129x1024 squeezes_S1x129x1024_S129x1024).view.dmaCredit := rfl
theorem N_send_6 : N = ((sendM.slice (Rect.unit (s := S7x129x1024) ![6, 0, 0] S1x129x1024.size inb_S7x129x1024_S1x129x1024_6_0_0) (fun _ => rfl)).squeeze S129x1024 squeezes_S1x129x1024_S129x1024).view.dmaCredit := rfl
omit [FloatOps F] in
theorem expect_recv_0 (c : Dev nD) : (rd (F := F) M).expect (recvCell c 0) 0 = ((recvM.slice (Rect.unit (s := S7x129x1024) ![0, 0, 0] S1x129x1024.size inb_S7x129x1024_S1x129x1024_0_0_0) (fun _ => rfl)).squeeze S129x1024 squeezes_S1x129x1024_S129x1024).view.dmaCredit := (expect_recv M c 0).trans N_eq_0
omit [FloatOps F] in
theorem expect_send_0 (c : Dev nD) : (rd (F := F) M).expect (sendCell c 0) 0 = ((sendM.slice (Rect.unit (s := S7x129x1024) ![0, 0, 0] S1x129x1024.size inb_S7x129x1024_S1x129x1024_0_0_0) (fun _ => rfl)).squeeze S129x1024 squeezes_S1x129x1024_S129x1024).view.dmaCredit := (expect_send M c 0).trans N_send_0
omit [FloatOps F] in
theorem expect_recv_1 (c : Dev nD) : (rd (F := F) M).expect (recvCell c 1) 0 = ((recvM.slice (Rect.unit (s := S7x129x1024) ![1, 0, 0] S1x129x1024.size inb_S7x129x1024_S1x129x1024_1_0_0) (fun _ => rfl)).squeeze S129x1024 squeezes_S1x129x1024_S129x1024).view.dmaCredit := (expect_recv M c 1).trans N_eq_1
omit [FloatOps F] in
theorem expect_send_1 (c : Dev nD) : (rd (F := F) M).expect (sendCell c 1) 0 = ((sendM.slice (Rect.unit (s := S7x129x1024) ![1, 0, 0] S1x129x1024.size inb_S7x129x1024_S1x129x1024_1_0_0) (fun _ => rfl)).squeeze S129x1024 squeezes_S1x129x1024_S129x1024).view.dmaCredit := (expect_send M c 1).trans N_send_1
omit [FloatOps F] in
theorem expect_recv_2 (c : Dev nD) : (rd (F := F) M).expect (recvCell c 2) 0 = ((recvM.slice (Rect.unit (s := S7x129x1024) ![2, 0, 0] S1x129x1024.size inb_S7x129x1024_S1x129x1024_2_0_0) (fun _ => rfl)).squeeze S129x1024 squeezes_S1x129x1024_S129x1024).view.dmaCredit := (expect_recv M c 2).trans N_eq_2
omit [FloatOps F] in
theorem expect_send_2 (c : Dev nD) : (rd (F := F) M).expect (sendCell c 2) 0 = ((sendM.slice (Rect.unit (s := S7x129x1024) ![2, 0, 0] S1x129x1024.size inb_S7x129x1024_S1x129x1024_2_0_0) (fun _ => rfl)).squeeze S129x1024 squeezes_S1x129x1024_S129x1024).view.dmaCredit := (expect_send M c 2).trans N_send_2
omit [FloatOps F] in
theorem expect_recv_3 (c : Dev nD) : (rd (F := F) M).expect (recvCell c 3) 0 = ((recvM.slice (Rect.unit (s := S7x129x1024) ![3, 0, 0] S1x129x1024.size inb_S7x129x1024_S1x129x1024_3_0_0) (fun _ => rfl)).squeeze S129x1024 squeezes_S1x129x1024_S129x1024).view.dmaCredit := (expect_recv M c 3).trans N_eq_3
omit [FloatOps F] in
theorem expect_send_3 (c : Dev nD) : (rd (F := F) M).expect (sendCell c 3) 0 = ((sendM.slice (Rect.unit (s := S7x129x1024) ![3, 0, 0] S1x129x1024.size inb_S7x129x1024_S1x129x1024_3_0_0) (fun _ => rfl)).squeeze S129x1024 squeezes_S1x129x1024_S129x1024).view.dmaCredit := (expect_send M c 3).trans N_send_3
omit [FloatOps F] in
theorem expect_recv_4 (c : Dev nD) : (rd (F := F) M).expect (recvCell c 4) 0 = ((recvM.slice (Rect.unit (s := S7x129x1024) ![4, 0, 0] S1x129x1024.size inb_S7x129x1024_S1x129x1024_4_0_0) (fun _ => rfl)).squeeze S129x1024 squeezes_S1x129x1024_S129x1024).view.dmaCredit := (expect_recv M c 4).trans N_eq_4
omit [FloatOps F] in
theorem expect_send_4 (c : Dev nD) : (rd (F := F) M).expect (sendCell c 4) 0 = ((sendM.slice (Rect.unit (s := S7x129x1024) ![4, 0, 0] S1x129x1024.size inb_S7x129x1024_S1x129x1024_4_0_0) (fun _ => rfl)).squeeze S129x1024 squeezes_S1x129x1024_S129x1024).view.dmaCredit := (expect_send M c 4).trans N_send_4
omit [FloatOps F] in
theorem expect_recv_5 (c : Dev nD) : (rd (F := F) M).expect (recvCell c 5) 0 = ((recvM.slice (Rect.unit (s := S7x129x1024) ![5, 0, 0] S1x129x1024.size inb_S7x129x1024_S1x129x1024_5_0_0) (fun _ => rfl)).squeeze S129x1024 squeezes_S1x129x1024_S129x1024).view.dmaCredit := (expect_recv M c 5).trans N_eq_5
omit [FloatOps F] in
theorem expect_send_5 (c : Dev nD) : (rd (F := F) M).expect (sendCell c 5) 0 = ((sendM.slice (Rect.unit (s := S7x129x1024) ![5, 0, 0] S1x129x1024.size inb_S7x129x1024_S1x129x1024_5_0_0) (fun _ => rfl)).squeeze S129x1024 squeezes_S1x129x1024_S129x1024).view.dmaCredit := (expect_send M c 5).trans N_send_5
omit [FloatOps F] in
theorem expect_recv_6 (c : Dev nD) : (rd (F := F) M).expect (recvCell c 6) 0 = ((recvM.slice (Rect.unit (s := S7x129x1024) ![6, 0, 0] S1x129x1024.size inb_S7x129x1024_S1x129x1024_6_0_0) (fun _ => rfl)).squeeze S129x1024 squeezes_S1x129x1024_S129x1024).view.dmaCredit := (expect_recv M c 6).trans N_eq_6
omit [FloatOps F] in
theorem expect_send_6 (c : Dev nD) : (rd (F := F) M).expect (sendCell c 6) 0 = ((sendM.slice (Rect.unit (s := S7x129x1024) ![6, 0, 0] S1x129x1024.size inb_S7x129x1024_S1x129x1024_6_0_0) (fun _ => rfl)).squeeze S129x1024 squeezes_S1x129x1024_S129x1024).view.dmaCredit := (expect_send M c 6).trans N_send_6

end Cert.KernelIdeal.Moe

end
-- ==== Proof.KernelIdeal.Values.lean ====
/-
# What the kernel computes, device by device

The arrays the body at device `c` passes from step to step, each a function of the device's four inputs: the gate weights
of its eight experts, for each chunk of 256 rows the table that gives every routed row a slot, the gathered and weighted rows, the
product with the stacked weights, the seven messages, and the sum of the eight contributions. Everything is generic in the
float instance.
-/
module

public import proofs.«01_k».proof.Proof.KernelIdeal.Protocol
public import Idealize.ShloMosaic.Lib.Writes
public import Idealize.ShloMosaic.Lib.WritesUnit
public import Idealize.ShloMosaic.Lib.ViewIndex
public import Idealize.ShloMosaic.Lib.VecWindow
public import Idealize.ShloMosaic.Lib.ValueLayout

@[expose] public section

set_option maxRecDepth 16384

noncomputable section

namespace Cert.KernelIdeal.Moe

open Cert.KernelIdeal Cert.KernelIdeal.Gen

open Idealize.ShloMosaic
open Idealize.ShloMosaic.TcCoe
open Idealize.ShloMosaic.ValueIdx

variable {F : FTy → Type} [FloatOps F]

/-- The inputs of one device: the tokens, the router's matrix, the two experts of each token, and the device's own
    eight weight matrices. -/
structure Ins (F : FTy → Type) where
  x : Vec F S2048x512 .f32
  rw : Vec F S512x64 .f32
  idx : Vec F S2048x2 .i32
  w : Vec F S8x512x1024 .f32

/-- The device's number as the kernel computes it. -/
def me (c : Dev nD) : BitVec 32 := Scalar.remsi (Scalar.divsi (BitVec.ofNat 32 c.val) 1#32) 8#32

theorem me_eq (c : Dev nD) : me c = BitVec.ofNat 32 c.val := by revert c; decide

/-! ## The gate weights -/

/-- The whole of the tokens, of the router's matrix, and the two columns of the experts' numbers, as loaded. -/
def xAll (x : Vec F S2048x512 .f32) : Vec F S2048x512 .f32 :=
  View.readAt (Elt F) (Memref.whole cc0_stg0_0).view (Rect.unit (s := S2048x512) ![0, 0] S2048x512.size inb_S2048x512_S2048x512_0_0).toLoadRect x
def rwAll (rw : Vec F S512x64 .f32) : Vec F S512x64 .f32 :=
  View.readAt (Elt F) (Memref.whole cc0_stg1_0).view (Rect.unit (s := S512x64) ![0, 0] S512x64.size inb_S512x64_S512x64_0_0).toLoadRect rw
def col0 (idx : Vec F S2048x2 .i32) : Vec F S2048x1 .i32 :=
  View.readAt (Elt F) (Memref.whole cc0_stg2_0).view (Rect.unit (s := S2048x2) ![0, 0] S2048x1.size inb_S2048x2_S2048x1_0_0).toLoadRect idx
def col1 (idx : Vec F S2048x2 .i32) : Vec F S2048x1 .i32 :=
  View.readAt (Elt F) (Memref.whole cc0_stg2_0).view (Rect.unit (s := S2048x2) ![0, 1] S2048x1.size inb_S2048x2_S2048x1_0_1).toLoadRect idx

/-- For each token and each of device `c`'s eight experts, the gate weight with which the expert counts for the token. -/
def coef (c : Dev nD) (x : Vec F S2048x512 .f32) (rw : Vec F S512x64 .f32) (idx : Vec F S2048x2 .i32) : FVec F S2048x8 .f32 :=
  k0_pay3 (me c) (k0_pay1 (xAll x)) (k0_pay2 (rwAll rw)) (col0 idx) (col1 idx)

/-! ## One chunk of 256 rows

Chunk `r` of device `c` is the one that belongs to the device `r` places further round the ring. -/

/-- The rows of the chunk: their first and second expert, their gate weights, their tokens. -/
def idx0 (c : Dev nD) (r : Fin 8) (idx : Vec F S2048x2 .i32) : Vec F S256x1 .i32 :=
  View.readAt (Elt F) (Memref.whole cc0_stg2_0).view
    (Rect.unit (s := S2048x2) (k0_off1 c (BitVec.ofNat 32 r.val)) S256x1.size (k0_off1_inb c r)).toLoadRect idx
def idx1 (c : Dev nD) (r : Fin 8) (idx : Vec F S2048x2 .i32) : Vec F S256x1 .i32 :=
  View.readAt (Elt F) (Memref.whole cc0_stg2_0).view
    (Rect.unit (s := S2048x2) (k0_off2 c (BitVec.ofNat 32 r.val)) S256x1.size (k0_off2_inb c r)).toLoadRect idx
def coefRows (c : Dev nD) (r : Fin 8) (v : FVec F S2048x8 .f32) : Vec F S256x8 .f32 :=
  View.readAt (Elt F) (Memref.whole cc0_scratch2).view
    (Rect.unit (s := S2048x8) (k0_off3 c (BitVec.ofNat 32 r.val)) S256x8.size (k0_off3_inb c r)).toLoadRect
    ((Memref.whole cc0_scratch2).view.writes (Elt F) (Memref.whole cc0_scratch2).view.junk
      [⟨Rect.unit (s := S2048x8) ![0, 0] S2048x8.size inb_S2048x8_S2048x8_0_0, v⟩])
def xRows (c : Dev nD) (r : Fin 8) (x : Vec F S2048x512 .f32) : Vec F S256x512 .f32 :=
  View.readAt (Elt F) (Memref.whole cc0_stg0_0).view
    (Rect.unit (s := S2048x512) (k0_off4 c (BitVec.ofNat 32 r.val)) S256x512.size (k0_off4_inb c r)).toLoadRect x

/-- The slot table of a chunk: entry `(i, s)` is 1 where row `i` is routed to the device and takes its slot `s`. -/
def slots (n : BitVec 32) (i0 i1 : Vec F S256x1 .i32) : FVec F S256x128 .bf16 :=
  k0_pay11 n (iota .tc S256x128 32 [1] iota_S256x128_d1_w32) k0_pay5 (k0_pay7 i1) (k0_pay8 i0) (k0_pay9 i0) (k0_pay10 i0)

def slotsAt (c : Dev nD) (r : Fin 8) (idx : Vec F S2048x2 .i32) : FVec F S256x128 .bf16 :=
  slots (me c) (idx0 c r idx) (idx1 c r idx)

theorem slices_col (j : Fin 8) : S128x8.Slices ![0, j.val] S128x1 := by revert j; decide

/-- The gathered rows weighted for expert `j`. -/
def weighted (j : Fin 8) (cc : FVec F S128x8 .f32) (xg : FVec F S128x512 .f32) : FVec F S128x512 .bf16 :=
  shapeCast S128x512 (truncf .bf16 (mulf (broadcastTo S128x512 (extractStridedSlice S128x1 ![0, j.val] cc (slices_col j))
    broadcasts_S128x1_S128x512) xg) bitsLt_bf16_f32) shapeCasts_S128x512_S128x512

/-- The rows of chunk `r` routed to device `c`, gathered into their slots and weighted for expert `j`. -/
def gathered (c : Dev nD) (I : Ins F) (r j : Fin 8) : FVec F S128x512 .bf16 :=
  weighted j (k0_pay13 (slotsAt c r I.idx) (coefRows c r (coef c I.x I.rw I.idx))) (k0_pay12 (slotsAt c r I.idx) (xRows c r I.x))

/-! ## Two chunks at a time -/

/-- Sixteen blocks of 128 × 512 side by side: `b0` above, `b1` below. -/
def sixteen (b0 b1 : Fin 8 → FVec F S128x512 .bf16) : Vec F S256x4096 .bf16 := fun i =>
  (if (i 0).val < 128 then b0 else b1) ⟨(i 1).val / 512, by have : (i 1).val < 4096 := (i 1).isLt; omega⟩
    (ix2 ⟨(i 0).val % 128, Nat.mod_lt _ (by decide)⟩ ⟨(i 1).val % 512, Nat.mod_lt _ (by decide)⟩)

/-- Eight blocks of 512 × 1024 on top of each other. -/
def eight (b : Fin 8 → FVec F S512x1024 .bf16) : Vec F S4096x1024 .bf16 := fun i =>
  b ⟨(i 0).val / 512, by have : (i 0).val < 4096 := (i 0).isLt; omega⟩
    (ix2 ⟨(i 0).val % 512, Nat.mod_lt _ (by decide)⟩ (i 1))

/-- Matrix `j` of the device's weights. -/
def plane (j : Fin 8) (w : Vec F S8x512x1024 .f32) : Vec F S1x512x1024 .f32 :=
  fun z => w ((loadR j).emb z)

/-- The eight weight matrices, rounded and stacked. -/
def stacked (w : Vec F S8x512x1024 .f32) : Vec F S4096x1024 .bf16 := eight fun j => k0_pay40 (plane j w)

/-- The product of the weighted rows of chunks `r₀` and `r₁` with the stacked weights. -/
def product (c : Dev nD) (I : Ins F) (r₀ r₁ : Fin 8) : FVec F S256x1024 .f32 :=
  k0_pay49 (sixteen (gathered c I r₀) (gathered c I r₁)) (stacked I.w)

/-! ## Messages and their sum -/

/-- A message: a row with the row number of each slot, then the 128 rows of results. -/
def packed (pt : FVec F S256x128 .bf16) (rows : FVec F S128x1024 .f32) : Vec F S129x1024 .bf16 :=
  truncf .bf16 (concatenate S129x1024 0 [⟨S1x1024, concatenate S1x1024 1
      [⟨S1x128, matmul dot_S256x1_S256x128_S1x128_0_0_1_1_n_n none (k0_pay4 (iota .tc S256x1 32 [0] iota_S256x1_d0_w32)) pt
        (constant S1x128 .f32 0x00000000#32)⟩,
       ⟨S1x896, broadcast S1x896 (Scalar.ofBits .f32 0x00000000#32)⟩] concatenates_S1x128_S1x896_S1x1024_d1⟩,
    ⟨S128x1024, rows⟩] concatenates_S1x1024_S128x1024_S129x1024_d0) bitsLt_bf16_f32

/-- The upper and the lower 128 rows of a product. -/
def upper (y : FVec F S256x1024 .f32) : FVec F S128x1024 .f32 :=
  extractStridedSlice S128x1024 ![0, 0] y slices_S256x1024_o0_0_S128x1024
def lower (y : FVec F S256x1024 .f32) : FVec F S128x1024 .f32 :=
  extractStridedSlice S128x1024 ![128, 0] y slices_S256x1024_o128_0_S128x1024

/-- The message of device `c` about chunk `r`; the chunks are taken in pairs 1, 2 and 3, 4 and 5, 6 and 7, 0. -/
def about (c : Dev nD) (I : Ins F) (r : Fin 8) : FVec F S128x1024 .f32 :=
  if r.val % 2 = 1 then upper (product c I r (r + 1)) else lower (product c I (r - 1) r)

/-- Message `j` of device `c` is about chunk `j + 1`. -/
def message (I : Dev nD → Ins F) (c : Dev nD) (j : Fin 7) : Vec F S129x1024 .bf16 :=
  packed (slotsAt c j.succ (I c).idx) (about c (I c) j.succ)

/-- What is read of a message: the row numbers, and the rows. -/
def numbers (m : Vec F S129x1024 .bf16) : Vec F S1x1x128 .bf16 :=
  fun z => m (ix2 ⟨0, by decide⟩ ⟨(z 2).val, by have : (z 2).val < 128 := (z 2).isLt; omega⟩)
def results (m : Vec F S129x1024 .bf16) : Vec F S1x128x1024 .bf16 :=
  fun z => m (ix2 ⟨1 + (z 1).val, by have : (z 1).val < 128 := (z 1).isLt; omega⟩ (z 2))

/-- One message added to the sum so far, each of its rows at the row number it names. -/
def absorb (acc : FVec F S256x1024 .f32) (m : Vec F S129x1024 .bf16) : FVec F S256x1024 .f32 :=
  k0_pay172 (iota .tc S256x128 32 [0] iota_S256x128_d0_w32) acc (numbers m) (results m)

/-- The device's contribution to its own rows. -/
def own (c : Dev nD) (I : Ins F) : FVec F S256x1024 .f32 :=
  matmul dot_S256x128_S128x1024_S256x1024_1_0_0_1_n_n none (slotsAt c 0 I.idx) (truncf .bf16 (about c I 0) bitsLt_bf16_f32)
    (constant S256x1024 .f32 0x00000000#32)

/-- The message device `c` receives in slot `j`. -/
def arrived (I : Dev nD → Ins F) (c : Dev nD) (j : Fin 7) : Vec F S129x1024 .bf16 := message I (peer j.rev c) j

/-- A contribution and seven messages added to it, in the order of the slots. -/
def total (acc : FVec F S256x1024 .f32) (m : Fin 7 → Vec F S129x1024 .bf16) : FVec F S256x1024 .f32 :=
  absorb (absorb (absorb (absorb (absorb (absorb (absorb acc (m 0)) (m 1)) (m 2)) (m 3)) (m 4)) (m 5)) (m 6)

/-- What device `c` writes: its own contribution and the seven it receives. -/
def result (I : Dev nD → Ins F) (c : Dev nD) : FVec F S256x1024 .f32 := total (own c (I c)) (arrived I c)

/-! ## Reading back what was stored -/

/-- A load of a whole array after stores of pieces that all agree with `G` and cover it reads `G`. -/
theorem readCov_pieces {κ : Kind} {sp : Space} {s : Shape} {e : EltTy} (v : View sig κ sp s e)
    (G : s.Idx → Elt F e) (L L' : List (View.Piece (Elt F) s e)) (hG : ∀ p ∈ L, ∀ x : p.1.shape.Idx, p.2 x = G (p.1.emb x))
    (hc : ∀ y, ∃ p ∈ L, y ∈ p.1.set) (y : s.Idx) :
    v.read (Elt F) (v.writes (Elt F) v.junk (L ++ L')) y = G y := by
  rw [View.writes_append]
  exact View.read_writes_apply_of_pieces _ _ G L hG y (hc y)

theorem sixteen_inb (q : Fin 16) : ∀ a, (![128 * (q.val / 8), 512 * (q.val % 8)] : Fin 2 → ℕ) a + S128x512.size a ≤ S256x4096.size a := by
  revert q; decide

/-- Block `q` of sixteen, at its place. -/
def sixteenth (b0 b1 : Fin 8 → FVec F S128x512 .bf16) (q : Fin 16) : View.Piece (Elt F) S256x4096 .bf16 :=
  ⟨Rect.unit (s := S256x4096) ![128 * (q.val / 8), 512 * (q.val % 8)] S128x512.size (sixteen_inb q),
    (if q.val < 8 then b0 else b1) ⟨q.val % 8, Nat.mod_lt _ (by decide)⟩⟩

/-- A load of the whole array after its sixteen blocks were stored, whatever was stored before. -/
theorem readCov_sixteen (b0 b1 : Fin 8 → FVec F S128x512 .bf16) (L' : List (View.Piece (Elt F) S256x4096 .bf16))
    (inb : ∀ a, (![0, 0] : Fin 2 → ℕ) a + S256x4096.size a ≤ S256x4096.size a) :
    (Memref.whole cc0_scratch1).view.readCov (Val := Elt F)
      (([15, 14, 13, 12, 11, 10, 9, 8, 7, 6, 5, 4, 3, 2, 1, 0] : List (Fin 16)).map (sixteenth b0 b1) ++ L')
      (Rect.unit (s := S256x4096) ![0, 0] S256x4096.size inb).toLoadRect = sixteen b0 b1 := by
  funext y
  obtain ⟨a, b, rfl⟩ : ∃ (a : Fin 256) (b : Fin 4096), y = ix2 a b := ⟨y 0, y 1, eq_ix2 y⟩
  refine (readCov_pieces (F := F) (Memref.whole cc0_scratch1).view (sixteen b0 b1) _ L' ?_ ?_ _).trans ?_
  · intro p hp x
    obtain ⟨q, -, rfl⟩ := List.mem_map.mp hp
    obtain ⟨u, v, rfl⟩ : ∃ (u : Fin 128) (v : Fin 512), x = ix2 u v := ⟨x 0, x 1, eq_ix2 x⟩
    show (if q.val < 8 then b0 else b1) _ (ix2 u v) =
      (if 128 * (q.val / 8) + 1 * u.val < 128 then b0 else b1) ⟨(512 * (q.val % 8) + 1 * v.val) / 512, _⟩
        (ix2 ⟨(128 * (q.val / 8) + 1 * u.val) % 128, _⟩ ⟨(512 * (q.val % 8) + 1 * v.val) % 512, _⟩)
    have hq := q.isLt
    have e1 : (if 128 * (q.val / 8) + 1 * u.val < 128 then b0 else b1) = (if q.val < 8 then b0 else b1) := by
      by_cases h : q.val < 8
      · rw [if_pos h, if_pos (by omega)]
      · rw [if_neg h, if_neg (by omega)]
    rw [e1]
    have e2 : (⟨q.val % 8, Nat.mod_lt _ (by decide)⟩ : Fin 8) = ⟨(512 * (q.val % 8) + 1 * v.val) / 512, by omega⟩ :=
      Fin.ext (by show q.val % 8 = (512 * (q.val % 8) + 1 * v.val) / 512; omega)
    refine congrArg₂ (if q.val < 8 then b0 else b1) e2 ?_
    · refine congrArg₂ ix2 (Fin.ext ?_) (Fin.ext ?_)
      · show u.val = (128 * (q.val / 8) + 1 * u.val) % 128; omega
      · show v.val = (512 * (q.val % 8) + 1 * v.val) % 512; omega
  · intro y
    obtain ⟨a, b, rfl⟩ : ∃ (a : Fin 256) (b : Fin 4096), y = ix2 a b := ⟨y 0, y 1, eq_ix2 y⟩
    have ha := a.isLt
    have hb := b.isLt
    refine ⟨sixteenth b0 b1 ⟨8 * (a.val / 128) + b.val / 512, by omega⟩, List.mem_map_of_mem ?_, ?_⟩
    · have : ∀ q : Fin 16, q ∈ ([15, 14, 13, 12, 11, 10, 9, 8, 7, 6, 5, 4, 3, 2, 1, 0] : List (Fin 16)) := by decide
      exact this _
    · refine (Rect.mem_set_unit (s := S256x4096) (inb := sixteen_inb _)).mpr ?_
      refine Fin.forall_fin_two.mpr ⟨?_, ?_⟩
      · show 128 * ((8 * (a.val / 128) + b.val / 512) / 8) ≤ a.val ∧ a.val < 128 * ((8 * (a.val / 128) + b.val / 512) / 8) + 128
        omega
      · show 512 * ((8 * (a.val / 128) + b.val / 512) % 8) ≤ b.val ∧ b.val < 512 * ((8 * (a.val / 128) + b.val / 512) % 8) + 512
        omega
  · refine congrArg (sixteen b0 b1) ((eq_ix2 (n0 := 256) (n1 := 4096) _).trans (congrArg₂ ix2 (Fin.ext ?_) (Fin.ext ?_)))
    · show 0 + 1 * a.val = a.val; omega
    · show 0 + 1 * b.val = b.val; omega

theorem eight_inb (q : Fin 8) : ∀ a, (![512 * q.val, 0] : Fin 2 → ℕ) a + S512x1024.size a ≤ S4096x1024.size a := by
  revert q; decide

/-- Block `q` of eight, at its place. -/
def eighth (b : Fin 8 → FVec F S512x1024 .bf16) (q : Fin 8) : View.Piece (Elt F) S4096x1024 .bf16 :=
  ⟨Rect.unit (s := S4096x1024) ![512 * q.val, 0] S512x1024.size (eight_inb q), b q⟩

/-- A load of the whole array after its eight blocks were stored. -/
theorem readCov_eight (b : Fin 8 → FVec F S512x1024 .bf16) (L' : List (View.Piece (Elt F) S4096x1024 .bf16))
    (inb : ∀ a, (![0, 0] : Fin 2 → ℕ) a + S4096x1024.size a ≤ S4096x1024.size a) :
    (Memref.whole cc0_scratch0).view.readCov (Val := Elt F) (([7, 6, 5, 4, 3, 2, 1, 0] : List (Fin 8)).map (eighth b) ++ L')
      (Rect.unit (s := S4096x1024) ![0, 0] S4096x1024.size inb).toLoadRect = eight b := by
  funext y
  obtain ⟨a, b', rfl⟩ : ∃ (a : Fin 4096) (b : Fin 1024), y = ix2 a b := ⟨y 0, y 1, eq_ix2 y⟩
  refine (readCov_pieces (F := F) (Memref.whole cc0_scratch0).view (eight b) _ L' ?_ ?_ _).trans ?_
  · intro p hp x
    obtain ⟨q, -, rfl⟩ := List.mem_map.mp hp
    obtain ⟨u, v, rfl⟩ : ∃ (u : Fin 512) (v : Fin 1024), x = ix2 u v := ⟨x 0, x 1, eq_ix2 x⟩
    have hq := q.isLt
    show b q (ix2 u v) = b ⟨(512 * q.val + 1 * u.val) / 512, _⟩ (ix2 ⟨(512 * q.val + 1 * u.val) % 512, _⟩ ⟨0 + 1 * v.val, _⟩)
    have e2 : q = ⟨(512 * q.val + 1 * u.val) / 512, by omega⟩ :=
      Fin.ext (by show q.val = (512 * q.val + 1 * u.val) / 512; omega)
    refine congrArg₂ b e2 ?_
    · refine congrArg₂ ix2 (Fin.ext ?_) (Fin.ext ?_)
      · show u.val = (512 * q.val + 1 * u.val) % 512; omega
      · show v.val = 0 + 1 * v.val; omega
  · intro y
    obtain ⟨a, b', rfl⟩ : ∃ (a : Fin 4096) (b : Fin 1024), y = ix2 a b := ⟨y 0, y 1, eq_ix2 y⟩
    have ha := a.isLt
    have hb := b'.isLt
    refine ⟨eighth b ⟨a.val / 512, by omega⟩, List.mem_map_of_mem ?_, ?_⟩
    · have : ∀ q : Fin 8, q ∈ ([7, 6, 5, 4, 3, 2, 1, 0] : List (Fin 8)) := by decide
      exact this _
    · refine (Rect.mem_set_unit (s := S4096x1024) (inb := eight_inb _)).mpr ?_
      refine Fin.forall_fin_two.mpr ⟨?_, ?_⟩
      · show 512 * (a.val / 512) ≤ a.val ∧ a.val < 512 * (a.val / 512) + 512
        omega
      · show 0 ≤ b'.val ∧ b'.val < 0 + 1024
        omega
  · refine congrArg (eight b) ((eq_ix2 (n0 := 4096) (n1 := 1024) _).trans (congrArg₂ ix2 (Fin.ext ?_) (Fin.ext ?_)))
    · show 0 + 1 * a.val = a.val; omega
    · show 0 + 1 * b'.val = b'.val; omega

/-- Matrix `j` of the weights as the transfer names it, in the argument and in the buffer it is loaded into. -/
abbrev argSlot (j : Fin 8) : Memref sig .tc .hbm S512x1024 .f32 :=
  ((Memref.whole main_arg3).slice (loadR j) (fun _ => rfl)).squeeze S512x1024 squeezes_S1x512x1024_S512x1024
abbrev loadSlot (j : Fin 8) : Memref sig .tc .vmem S512x1024 .f32 :=
  (loadM.slice (loadR j) (fun _ => rfl)).squeeze S512x1024 squeezes_S1x512x1024_S512x1024

omit [FloatOps F] in
/-- After the transfer a load of matrix `j` reads the device's matrix `j`, whatever the buffer held. -/
theorem load_read (j : Fin 8) (fe : loadM.view.ty.Contents (Elt F)) (w : Vec F S8x512x1024 .f32) :
    View.readAt (Elt F) loadM.view (loadR j).toLoadRect
      (View.write (Elt F) (loadSlot j).view fe (ReadAs.same.apply (View.read (Elt F) (argSlot j).view w)) Finset.univ) = plane j w := by
  have h := View.write_reshape_univ (Val := Elt F) (loadM.view.slice (loadR j)) (s' := S512x1024)
    (squeezes_S1x512x1024_S512x1024).numel_eq fe (ReadAs.same.apply (View.read (Elt F) (argSlot j).view w))
  refine (congrArg (fun f => (loadM.view.slice (loadR j)).read (Elt F) f) h).trans ?_
  refine (View.read_write_univ (v := loadM.view.slice (loadR j)) _ _).trans ?_
  funext z
  show w ((loadR j).emb (Shape.reshapeEquiv _ ((Shape.reshapeEquiv _).symm z))) = w ((loadR j).emb z)
  rw [Equiv.apply_symm_apply]

omit [FloatOps F] in
/-- A slot of the send buffer holds the message stored there. -/
theorem read_stored (j : Fin 7) (f : sendM.view.ty.Contents (Elt F)) (m : Vec F S129x1024 .bf16) :
    (sendSlot j).view.read (Elt F) (sendM.view.writes (Elt F) f
      [⟨slotR j, shapeCast S1x129x1024 m shapeCasts_S129x1024_S1x129x1024⟩]) = m := by
  have h := View.read_write_univ (Val := Elt F) (v := sendM.view.slice (slotR j)) f
    (shapeCast S1x129x1024 m shapeCasts_S129x1024_S1x129x1024)
  funext x
  refine (congrFun h (Shape.reshapeEquiv (squeezes_S1x129x1024_S129x1024).numel_eq x)).trans ?_
  show m (Shape.reshapeEquiv _ (Shape.reshapeEquiv _ x)) = m x
  exact congrArg m ((Shape.reshapeEquiv_reshapeEquiv _ _ x).trans (Shape.reshapeEquiv_self _ x))

/-- A slot into which the upper, or the lower, half of a product was stored with its row numbers holds the message. -/
theorem stored_upper (c : Dev nD) (I : Ins F) (j : Fin 7) (f : sendM.view.ty.Contents (Elt F)) (X : Vec F S256x4096 .bf16)
    (W : Vec F S4096x1024 .bf16) (hX : X = sixteen (gathered c I j.succ) (gathered c I (j.succ + 1))) (hW : W = stacked I.w)
    (hj : j.succ.val % 2 = 1) :
    (sendSlot j).view.read (Elt F) (sendM.view.writes (Elt F) f
      [⟨slotR j, k0_pay50 (k0_pay4 (iota .tc S256x1 32 [0] iota_S256x1_d0_w32)) (slotsAt c j.succ I.idx) X W⟩])
      = packed (slotsAt c j.succ I.idx) (about c I j.succ) := by
  refine (read_stored j f (packed (slotsAt c j.succ I.idx) (upper (k0_pay49 X W)))).trans ?_
  rw [hX, hW, about, if_pos hj]
  rfl
theorem stored_lower (c : Dev nD) (I : Ins F) (j : Fin 7) (f : sendM.view.ty.Contents (Elt F)) (X : Vec F S256x4096 .bf16)
    (W : Vec F S4096x1024 .bf16) (hX : X = sixteen (gathered c I (j.succ - 1)) (gathered c I j.succ)) (hW : W = stacked I.w)
    (hj : ¬ j.succ.val % 2 = 1) :
    (sendSlot j).view.read (Elt F) (sendM.view.writes (Elt F) f
      [⟨slotR j, k0_pay51 (k0_pay4 (iota .tc S256x1 32 [0] iota_S256x1_d0_w32)) (slotsAt c j.succ I.idx) (k0_pay49 X W)⟩])
      = packed (slotsAt c j.succ I.idx) (about c I j.succ) := by
  refine (read_stored j f (packed (slotsAt c j.succ I.idx) (lower (k0_pay49 X W)))).trans ?_
  rw [hX, hW, about, if_neg hj]
  rfl

/-- The eight weights read back and rounded, whatever the load buffer held before. -/
theorem readCov_stacked (w : Vec F S8x512x1024 .f32) (v : Fin 8 → Vec F S1x512x1024 .f32) (hv : ∀ j, v j = plane j w)
    (inb : ∀ a, (![0, 0] : Fin 2 → ℕ) a + S4096x1024.size a ≤ S4096x1024.size a) :
    (Memref.whole cc0_scratch0).view.readCov (Val := Elt F)
      (([7, 6, 5, 4, 3, 2, 1, 0] : List (Fin 8)).map (eighth fun j => k0_pay40 (v j)) ++ [])
      (Rect.unit (s := S4096x1024) ![0, 0] S4096x1024.size inb).toLoadRect = stacked w := by
  rw [show v = fun j => plane j w from funext hv]
  exact readCov_eight _ _ _

/-- What a load of matrix `j` reads after the transfer into a buffer that held `fe`. -/
def loaded (j : Fin 8) (fe : loadM.view.ty.Contents (Elt F)) (w : Vec F S8x512x1024 .f32) : Vec F S1x512x1024 .f32 :=
  View.readAt (Elt F) loadM.view (loadR j).toLoadRect
    (View.write (Elt F) (loadSlot j).view fe (ReadAs.same.apply (View.read (Elt F) (argSlot j).view w)) Finset.univ)

omit [FloatOps F] in
/-- A load of the row numbers, and of the rows, of a message in slot `j`. -/
theorem read_numbers (c : Dev nD) (j : Fin 7) (m : Vec F S129x1024 .bf16)
    (inb : ∀ a, (![j.val, 0, 0] : Fin 3 → ℕ) a + S1x1x128.size a ≤ S7x129x1024.size a) :
    View.readAt (Elt F) recvM.view (Rect.unit (s := S7x129x1024) ![j.val, 0, 0] S1x1x128.size inb).toLoadRect (landing c m) = numbers m := by
  funext z
  have h1 : (z 1).val = 0 := by have : (z 1).val < 1 := (z 1).isLt; omega
  refine congrArg m (congrArg₂ (ix2 (n0 := 129) (n1 := 1024)) (Fin.ext ?_) (Fin.ext ?_))
  · show 0 + 1 * (z 1).val = 0; omega
  · show 0 + 1 * (z 2).val = (z 2).val; omega
omit [FloatOps F] in
theorem read_results (c : Dev nD) (j : Fin 7) (m : Vec F S129x1024 .bf16)
    (inb : ∀ a, (![j.val, 1, 0] : Fin 3 → ℕ) a + S1x128x1024.size a ≤ S7x129x1024.size a) :
    View.readAt (Elt F) recvM.view (Rect.unit (s := S7x129x1024) ![j.val, 1, 0] S1x128x1024.size inb).toLoadRect (landing c m) = results m := by
  funext z
  refine congrArg m (congrArg₂ (ix2 (n0 := 129) (n1 := 1024)) (Fin.ext ?_) (Fin.ext ?_))
  · show 1 + 1 * (z 1).val = 1 + (z 1).val; omega
  · show 0 + 1 * (z 2).val = (z 2).val; omega

theorem numbers_inb (j : Fin 7) : ∀ a, (![j.val, 0, 0] : Fin 3 → ℕ) a + S1x1x128.size a ≤ S7x129x1024.size a := by
  revert j; decide
theorem results_inb (j : Fin 7) : ∀ a, (![j.val, 1, 0] : Fin 3 → ℕ) a + S1x128x1024.size a ≤ S7x129x1024.size a := by
  revert j; decide

/-- The loads of the row numbers and of the rows in slot `j` once message `m` has landed. -/
def loadNumbers (c : Dev nD) (m : Vec F S129x1024 .bf16) (j : Fin 7) : Vec F S1x1x128 .bf16 :=
  View.readAt (Elt F) recvM.view (Rect.unit (s := S7x129x1024) ![j.val, 0, 0] S1x1x128.size (numbers_inb j)).toLoadRect (landing c m)
def loadResults (c : Dev nD) (m : Vec F S129x1024 .bf16) (j : Fin 7) : Vec F S1x128x1024 .bf16 :=
  View.readAt (Elt F) recvM.view (Rect.unit (s := S7x129x1024) ![j.val, 1, 0] S1x128x1024.size (results_inb j)).toLoadRect (landing c m)

omit [FloatOps F] in
/-- A store of the whole output buffer leaves what was stored. -/
theorem stored_out (f : (Memref.whole cc0_stg3_0).view.ty.Contents (Elt F)) (v : Vec F S256x1024 .f32) :
    (Memref.whole cc0_stg3_0).view.writes (Elt F) f [⟨Rect.unit (s := S256x1024) ![0, 0] S256x1024.size inb_S256x1024_S256x1024_0_0, v⟩] = v :=
  (View.read_whole cc0_stg3_0 _).symm.trans
    (View.read_writes_full (Val := Elt F) (s := S256x1024) (View.whole cc0_stg3_0) f inb_S256x1024_S256x1024_0_0 v [])

/-- The device's own contribution and the first message, as the kernel adds them. -/
theorem own_first (c : Dev nD) (I : Ins F) (m : Vec F S129x1024 .bf16) :
    k0_pay168 (slotsAt c 0 I.idx) (k0_pay49 (sixteen (gathered c I 7) (gathered c I 0)) (stacked I.w)) (numbers m) (results m)
      = absorb (own c I) m := by
  have e : about c I 0 = lower (k0_pay49 (sixteen (gathered c I 7) (gathered c I 0)) (stacked I.w)) := by
    unfold about; rw [if_neg (by decide)]; rfl
  unfold absorb own
  rw [e]
  rfl

/-- The output buffer after the last store holds the sum of the device's own contribution and the messages. -/
theorem stored_total (c : Dev nD) (I : Ins F) (m : Fin 7 → Vec F S129x1024 .bf16) (f : (Memref.whole cc0_stg3_0).view.ty.Contents (Elt F))
    (X : Vec F S256x4096 .bf16) (W : Vec F S4096x1024 .bf16) (hX : X = sixteen (gathered c I 7) (gathered c I 0)) (hW : W = stacked I.w)
    (n : Fin 7 → Vec F S1x1x128 .bf16) (s : Fin 7 → Vec F S1x128x1024 .bf16) (hn : n = fun j => loadNumbers c (m j) j)
    (hs : s = fun j => loadResults c (m j) j) :
    (Memref.whole cc0_stg3_0).view.writes (Elt F) f [⟨Rect.unit (s := S256x1024) ![0, 0] S256x1024.size inb_S256x1024_S256x1024_0_0,
      k0_pay172 (iota .tc S256x128 32 [0] iota_S256x128_d0_w32) (k0_pay172 (iota .tc S256x128 32 [0] iota_S256x128_d0_w32)
        (k0_pay172 (iota .tc S256x128 32 [0] iota_S256x128_d0_w32) (k0_pay172 (iota .tc S256x128 32 [0] iota_S256x128_d0_w32)
        (k0_pay172 (iota .tc S256x128 32 [0] iota_S256x128_d0_w32) (k0_pay172 (iota .tc S256x128 32 [0] iota_S256x128_d0_w32)
        (k0_pay168 (slotsAt c 0 I.idx) (k0_pay49 X W) (n 0) (s 0)) (n 1) (s 1)) (n 2) (s 2)) (n 3) (s 3)) (n 4) (s 4)) (n 5) (s 5))
        (n 6) (s 6)⟩] = total (own c I) m := by
  refine (stored_out f _).trans ?_
  have hn' : ∀ j, n j = numbers (m j) := fun j => (congrFun hn j).trans (read_numbers c j (m j) _)
  have hs' : ∀ j, s j = results (m j) := fun j => (congrFun hs j).trans (read_results c j (m j) _)
  rw [hX, hW, hn' 0, hn' 1, hn' 2, hn' 3, hn' 4, hn' 5, hn' 6, hs' 0, hs' 1, hs' 2, hs' 3, hs' 4, hs' 5, hs' 6, own_first]
  rfl

end Cert.KernelIdeal.Moe
-- ==== Proof.KernelIdeal.Run.lean ====
/-
# One run of the body, at a symbolic device

The body is executed once, at a symbolic device `c`. The seven transfers are taken by hand with `wp_send_at`; what each
hands over is the message of Values.lean. The last part closes the device's cells, so that its semaphores are zero again.
-/
module

public import proofs.«01_k».proof.Proof.KernelIdeal.Steps
public import proofs.«01_k».proof.Proof.KernelIdeal.Values

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Tactic

variable {F : FTy → Type} [FloatOps F]

local notation "𝕄" => MT nD τ sig Unit (Elt F) ℕ UU ℕ

variable (M : Dev nD → Fin 7 → Vec F S129x1024 .bf16) (K : Names)

attribute [local sl_rounds] duties_bar duties_send duties_recv amount_bar amount_send amount_recv expect_bar
  pay_bar_0 pay_send_0 pay_recv_0 pay_bar_1 pay_send_1 pay_recv_1 pay_bar_2 pay_send_2 pay_recv_2 pay_bar_3 pay_send_3 pay_recv_3 pay_bar_4 pay_send_4 pay_recv_4 pay_bar_5 pay_send_5 pay_recv_5 pay_bar_6 pay_send_6 pay_recv_6
attribute [local sl_rounds 2000] pay_peer_0 pay_peer_1 pay_peer_2 pay_peer_3 pay_peer_4 pay_peer_5 pay_peer_6

attribute [local irreducible] dues rem O₀ peer N

attribute [local sl_rounds 2000] expect_recv_0 expect_send_0 expect_recv_1 expect_send_1 expect_recv_2 expect_send_2 expect_recv_3 expect_send_3 expect_recv_4 expect_send_4 expect_recv_5 expect_send_5 expect_recv_6 expect_send_6

/-- What the body leaves: nothing owed, every semaphore of the device at zero, the inputs as they were, the output buffer
    holding `res`, and the scratch buffers at any contents. -/
def finished (c : Dev nD) (g0 : cc0_stg0_0.ty.Contents (Elt F)) (g1 : cc0_stg1_0.ty.Contents (Elt F)) (g2 : cc0_stg2_0.ty.Contents (Elt F))
    (w3 : main_arg3.ty.Contents (Elt F)) (res : cc0_stg3_0.ty.Contents (Elt F)) : sProp 𝕄 :=
  iprop((∃ W, owes (c : Thread nD τ) 0 W) ∗ semVal (barCell c) 0 ∗ (bigSep Finset.univ fun j => semVal (sendCell c j) 0)
    ∗ (bigSep Finset.univ fun j => semVal (recvCell c j) 0) ∗ (bigSep Finset.univ fun j => semVal (loadCell c j) 0)
    ∗ ((Memref.whole cc0_stg0_0).view.loc (c : Thread nD τ) ↦[(Memref.whole cc0_stg0_0).view.set]{fullShare} g0)
    ∗ ((Memref.whole cc0_stg1_0).view.loc (c : Thread nD τ) ↦[(Memref.whole cc0_stg1_0).view.set]{fullShare} g1)
    ∗ ((Memref.whole cc0_stg2_0).view.loc (c : Thread nD τ) ↦[(Memref.whole cc0_stg2_0).view.set]{fullShare} g2)
    ∗ ((Memref.whole main_arg3).view.loc (c : Thread nD τ) ↦[(Memref.whole main_arg3).view.set]{fullShare} w3)
    ∗ ((Memref.whole cc0_stg3_0).view.loc (c : Thread nD τ) ↦[(Memref.whole cc0_stg3_0).view.set]{fullShare} res)
    ∗ (∃ f, (Memref.whole cc0_scratch0).view.loc (c : Thread nD τ) ↦[(Memref.whole cc0_scratch0).view.set]{fullShare} f)
    ∗ (∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f)
    ∗ (bigSep Finset.univ fun j : Fin 8 => iprop(∃ f, loadPts (F := F) c j f))
    ∗ (bigSep Finset.univ fun j => iprop(∃ f, sendPts (F := F) c j f)) ∗ (bigSep Finset.univ fun j => iprop(∃ f, recvPts (F := F) c j f)))

set_option maxHeartbeats 4000000 in
/-- The body at device `c`, run from what the launch gives it to `finished`. `M` is any choice of messages in which `c`'s own
    are the ones its inputs determine. -/
theorem body_run (c : Dev nD) (g0 : cc0_stg0_0.ty.Contents (Elt F)) (g1 : cc0_stg1_0.ty.Contents (Elt F)) (g2 : cc0_stg2_0.ty.Contents (Elt F))
   (w3 : main_arg3.ty.Contents (Elt F)) (W : Waits sig Unit) (Kt : PUnit → sProp 𝕄)
   (hM : ∀ j, M c j = packed (slotsAt c j.succ g2) (about c ⟨g0, g1, g2, w3⟩ j.succ)) :
   iprop((invs M K c ∗ marks c ∗ places c ∗ tokens c ∗ credits c ∗ levAts L lv)
     ∗ owes (c : Thread nD τ) (O₀ c) W
     ∗ (bigSep Finset.univ fun j => semVal (loadCell c j) 0)
     ∗ ((Memref.whole cc0_stg0_0).view.loc (c : Thread nD τ) ↦[(Memref.whole cc0_stg0_0).view.set]{fullShare} g0) ∗ ((Memref.whole cc0_stg1_0).view.loc (c : Thread nD τ) ↦[(Memref.whole cc0_stg1_0).view.set]{fullShare} g1)
     ∗ ((Memref.whole cc0_stg2_0).view.loc (c : Thread nD τ) ↦[(Memref.whole cc0_stg2_0).view.set]{fullShare} g2) ∗ ((Memref.whole main_arg3).view.loc (c : Thread nD τ) ↦[(Memref.whole main_arg3).view.set]{fullShare} w3)
     ∗ (∃ f, (Memref.whole cc0_stg3_0).view.loc (c : Thread nD τ) ↦[(Memref.whole cc0_stg3_0).view.set]{fullShare} f)
     ∗ (∃ f, (Memref.whole cc0_scratch0).view.loc (c : Thread nD τ) ↦[(Memref.whole cc0_scratch0).view.set]{fullShare} f)
     ∗ (∃ f, (Memref.whole cc0_scratch1).view.loc (c : Thread nD τ) ↦[(Memref.whole cc0_scratch1).view.set]{fullShare} f)
     ∗ (∃ f, (Memref.whole cc0_scratch2).view.loc (c : Thread nD τ) ↦[(Memref.whole cc0_scratch2).view.set]{fullShare} f)
     ∗ (bigSep Finset.univ fun j : Fin 8 => iprop(∃ f, loadPts (F := F) c j f))
     ∗ (bigSep Finset.univ fun j => iprop(∃ f, sendPts (F := F) c j f)) ∗ (bigSep Finset.univ fun j => iprop(∃ f, recvPts (F := F) c j f))
     ∗ (finished c g0 g1 g2 w3 (total (own c ⟨g0, g1, g2, w3⟩) fun j => M (peer j.rev c) j) -∗ Kt ⟨⟩))
   ⊢ wp frame (wpE (defs₀ (F := F)) Variants.none (c : Thread nD τ) none) Set.univ (cc0_body (F := F) (Memref.whole cc0_stg0_0) (Memref.isWhole_whole _) (Memref.whole cc0_stg1_0) (Memref.isWhole_whole _)
        (Memref.whole cc0_stg2_0) (Memref.isWhole_whole _) (Memref.whole main_arg3) (Memref.isWhole_whole _)
        (Memref.whole cc0_stg3_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _) cc0_scratch6 cc0_scratch7 cc0_scratch8) Kt := by
  unfold invs marks places tokens credits
  rw [dues_0 c, dues_1 c, dues_2 c, dues_3 c, dues_4 c, dues_5 c, dues_6 c]
  have hml : ∀ q : DmaSem sig, ¬ IsRecv q → ((levAts L lv : sProp 𝕄) ⊢ MayWait (c : Thread nD τ) (.dma q) () (rem c 7)) := mayWait_own c
  have hd1 := dev1_eq c
  have hd2 := dev2_eq c
  have hd3 := dev3_eq c
  have hd4 := dev4_eq c
  have hd5 := dev5_eq c
  have hd6 := dev6_eq c
  have hd7 := dev7_eq c
  iintro ⟨⟨⟨#HIB, HIS, HIV, HIBP, #HIVP⟩, ⟨HrBP, HrS, HrV, HrVP⟩, ⟨HatB, HatS, HatV⟩, ⟨HtB, HtS, HtV⟩, ⟨HcB, HcV⟩, #Hlev⟩, HO, Hl,
    Hx, Hrw, Hidx, Hw, ⟨%f3, Hout⟩, ⟨%fa, Hwbf⟩, ⟨%fb, Hxsc⟩, ⟨%fc, Hcoef⟩, He, Hs, Hv, Hk⟩
  ihave #Hmb := (mayWait_bar (F := F) c 7) $$ Hlev
  ihave HIS := (Entails.of_eq (bigSep_fin7 _)) $$ HIS
  icases HIS with ⟨#HIS0, #HIS1, #HIS2, #HIS3, #HIS4, #HIS5, #HIS6⟩
  ihave HIV := (Entails.of_eq (bigSep_fin7 _)) $$ HIV
  icases HIV with ⟨#HIV0, #HIV1, #HIV2, #HIV3, #HIV4, #HIV5, #HIV6⟩
  ihave HIBP := (Entails.of_eq (bigSep_fin7 _)) $$ HIBP
  icases HIBP with ⟨#HIBP0, #HIBP1, #HIBP2, #HIBP3, #HIBP4, #HIBP5, #HIBP6⟩
  ihave HrBP := (Entails.of_eq (bigSep_fin7 _)) $$ HrBP
  icases HrBP with ⟨#HrBP0, #HrBP1, #HrBP2, #HrBP3, #HrBP4, #HrBP5, #HrBP6⟩
  ihave HrS := (Entails.of_eq (bigSep_fin7 _)) $$ HrS
  icases HrS with ⟨#HrS0, #HrS1, #HrS2, #HrS3, #HrS4, #HrS5, #HrS6⟩
  ihave HrV := (Entails.of_eq (bigSep_fin7 _)) $$ HrV
  icases HrV with ⟨#HrV0, #HrV1, #HrV2, #HrV3, #HrV4, #HrV5, #HrV6⟩
  ihave HrVP := (Entails.of_eq (bigSep_fin7 _)) $$ HrVP
  icases HrVP with ⟨#HrVP0, #HrVP1, #HrVP2, #HrVP3, #HrVP4, #HrVP5, #HrVP6⟩
  ihave HatS := (Entails.of_eq (bigSep_fin7 _)) $$ HatS
  icases HatS with ⟨HatS0, HatS1, HatS2, HatS3, HatS4, HatS5, HatS6⟩
  ihave HatV := (Entails.of_eq (bigSep_fin7 _)) $$ HatV
  icases HatV with ⟨HatV0, HatV1, HatV2, HatV3, HatV4, HatV5, HatV6⟩
  ihave HtB := (Entails.of_eq (bigSep_fin7 _)) $$ HtB
  icases HtB with ⟨HtB0, HtB1, HtB2, HtB3, HtB4, HtB5, HtB6⟩
  ihave HtS := (Entails.of_eq (bigSep_fin7 _)) $$ HtS
  icases HtS with ⟨HtS0, HtS1, HtS2, HtS3, HtS4, HtS5, HtS6⟩
  ihave HtV := (Entails.of_eq (bigSep_fin7 _)) $$ HtV
  icases HtV with ⟨HtV0, HtV1, HtV2, HtV3, HtV4, HtV5, HtV6⟩
  ihave HcV := (Entails.of_eq (bigSep_fin7 _)) $$ HcV
  icases HcV with ⟨HcV0, HcV1, HcV2, HcV3, HcV4, HcV5, HcV6⟩
  ihave Hs := (Entails.of_eq (bigSep_fin7 _)) $$ Hs
  icases Hs with ⟨⟨%fs0, Hs0⟩, ⟨%fs1, Hs1⟩, ⟨%fs2, Hs2⟩, ⟨%fs3, Hs3⟩, ⟨%fs4, Hs4⟩, ⟨%fs5, Hs5⟩, ⟨%fs6, Hs6⟩⟩
  ihave Hv := (Entails.of_eq (bigSep_fin7 _)) $$ Hv
  icases Hv with ⟨⟨%fv0, Hv0⟩, ⟨%fv1, Hv1⟩, ⟨%fv2, Hv2⟩, ⟨%fv3, Hv3⟩, ⟨%fv4, Hv4⟩, ⟨%fv5, Hv5⟩, ⟨%fv6, Hv6⟩⟩
  ihave Hv6 := (Entails.of_eq (show recvPts (F := F) c 6 fv6 = (recvM.view.loc (c : Thread nD τ) ↦[recvM.view.setOn (Rect.unit (s := S7x129x1024) ![6, 0, 0] S1x129x1024.size inb_S7x129x1024_S1x129x1024_6_0_0).set]{fullShare} fv6) from rfl)) $$ Hv6
  ihave Hv5 := (Entails.of_eq (show recvPts (F := F) c 5 fv5 = (recvM.view.loc (c : Thread nD τ) ↦[recvM.view.setOn (Rect.unit (s := S7x129x1024) ![5, 0, 0] S1x129x1024.size inb_S7x129x1024_S1x129x1024_5_0_0).set]{fullShare} fv5) from rfl)) $$ Hv5
  ihave Hv4 := (Entails.of_eq (show recvPts (F := F) c 4 fv4 = (recvM.view.loc (c : Thread nD τ) ↦[recvM.view.setOn (Rect.unit (s := S7x129x1024) ![4, 0, 0] S1x129x1024.size inb_S7x129x1024_S1x129x1024_4_0_0).set]{fullShare} fv4) from rfl)) $$ Hv4
  ihave Hv3 := (Entails.of_eq (show recvPts (F := F) c 3 fv3 = (recvM.view.loc (c : Thread nD τ) ↦[recvM.view.setOn (Rect.unit (s := S7x129x1024) ![3, 0, 0] S1x129x1024.size inb_S7x129x1024_S1x129x1024_3_0_0).set]{fullShare} fv3) from rfl)) $$ Hv3
  ihave Hv2 := (Entails.of_eq (show recvPts (F := F) c 2 fv2 = (recvM.view.loc (c : Thread nD τ) ↦[recvM.view.setOn (Rect.unit (s := S7x129x1024) ![2, 0, 0] S1x129x1024.size inb_S7x129x1024_S1x129x1024_2_0_0).set]{fullShare} fv2) from rfl)) $$ Hv2
  ihave Hv1 := (Entails.of_eq (show recvPts (F := F) c 1 fv1 = (recvM.view.loc (c : Thread nD τ) ↦[recvM.view.setOn (Rect.unit (s := S7x129x1024) ![1, 0, 0] S1x129x1024.size inb_S7x129x1024_S1x129x1024_1_0_0).set]{fullShare} fv1) from rfl)) $$ Hv1
  ihave Hv0 := (Entails.of_eq (show recvPts (F := F) c 0 fv0 = (recvM.view.loc (c : Thread nD τ) ↦[recvM.view.setOn (Rect.unit (s := S7x129x1024) ![0, 0, 0] S1x129x1024.size inb_S7x129x1024_S1x129x1024_0_0_0).set]{fullShare} fv0) from rfl)) $$ Hv0
  ihave Hl := (Entails.of_eq (bigSep_fin8 _)) $$ Hl
  icases Hl with ⟨Hl0, Hl1, Hl2, Hl3, Hl4, Hl5, Hl6, Hl7⟩
  ihave He := (Entails.of_eq (bigSep_fin8 _)) $$ He
  icases He with ⟨⟨%fe0, He0⟩, ⟨%fe1, He1⟩, ⟨%fe2, He2⟩, ⟨%fe3, He3⟩, ⟨%fe4, He4⟩, ⟨%fe5, He5⟩, ⟨%fe6, He6⟩, ⟨%fe7, He7⟩⟩
  ihave He0 := (Entails.of_eq (show loadPts (F := F) c 0 fe0 = loadM.view.loc (c : Thread nD τ) ↦[loadM.view.setOn (Rect.unit (s := S8x512x1024) ![0, 0, 0] S1x512x1024.size inb_S8x512x1024_S1x512x1024_0_0_0).set]{fullShare} fe0 from rfl)) $$ He0
  ihave He1 := (Entails.of_eq (show loadPts (F := F) c 1 fe1 = loadM.view.loc (c : Thread nD τ) ↦[loadM.view.setOn (Rect.unit (s := S8x512x1024) ![1, 0, 0] S1x512x1024.size inb_S8x512x1024_S1x512x1024_1_0_0).set]{fullShare} fe1 from rfl)) $$ He1
  ihave He2 := (Entails.of_eq (show loadPts (F := F) c 2 fe2 = loadM.view.loc (c : Thread nD τ) ↦[loadM.view.setOn (Rect.unit (s := S8x512x1024) ![2, 0, 0] S1x512x1024.size inb_S8x512x1024_S1x512x1024_2_0_0).set]{fullShare} fe2 from rfl)) $$ He2
  ihave He3 := (Entails.of_eq (show loadPts (F := F) c 3 fe3 = loadM.view.loc (c : Thread nD τ) ↦[loadM.view.setOn (Rect.unit (s := S8x512x1024) ![3, 0, 0] S1x512x1024.size inb_S8x512x1024_S1x512x1024_3_0_0).set]{fullShare} fe3 from rfl)) $$ He3
  ihave He4 := (Entails.of_eq (show loadPts (F := F) c 4 fe4 = loadM.view.loc (c : Thread nD τ) ↦[loadM.view.setOn (Rect.unit (s := S8x512x1024) ![4, 0, 0] S1x512x1024.size inb_S8x512x1024_S1x512x1024_4_0_0).set]{fullShare} fe4 from rfl)) $$ He4
  ihave He5 := (Entails.of_eq (show loadPts (F := F) c 5 fe5 = loadM.view.loc (c : Thread nD τ) ↦[loadM.view.setOn (Rect.unit (s := S8x512x1024) ![5, 0, 0] S1x512x1024.size inb_S8x512x1024_S1x512x1024_5_0_0).set]{fullShare} fe5 from rfl)) $$ He5
  ihave He6 := (Entails.of_eq (show loadPts (F := F) c 6 fe6 = loadM.view.loc (c : Thread nD τ) ↦[loadM.view.setOn (Rect.unit (s := S8x512x1024) ![6, 0, 0] S1x512x1024.size inb_S8x512x1024_S1x512x1024_6_0_0).set]{fullShare} fe6 from rfl)) $$ He6
  ihave He7 := (Entails.of_eq (show loadPts (F := F) c 7 fe7 = loadM.view.loc (c : Thread nD τ) ↦[loadM.view.setOn (Rect.unit (s := S8x512x1024) ![7, 0, 0] S1x512x1024.size inb_S8x512x1024_S1x512x1024_7_0_0).set]{fullShare} fe7 from rfl)) $$ He7
  ihave Hs0 := (Entails.of_eq (show sendPts (F := F) c 0 fs0 = (sendM.view.loc (c : Thread nD τ) ↦[sendM.view.setOn (Rect.unit (s := S7x129x1024) ![0, 0, 0] S1x129x1024.size inb_S7x129x1024_S1x129x1024_0_0_0).set]{fullShare} fs0) from rfl)) $$ Hs0
  ihave Hs1 := (Entails.of_eq (show sendPts (F := F) c 1 fs1 = (sendM.view.loc (c : Thread nD τ) ↦[sendM.view.setOn (Rect.unit (s := S7x129x1024) ![1, 0, 0] S1x129x1024.size inb_S7x129x1024_S1x129x1024_1_0_0).set]{fullShare} fs1) from rfl)) $$ Hs1
  ihave Hs2 := (Entails.of_eq (show sendPts (F := F) c 2 fs2 = (sendM.view.loc (c : Thread nD τ) ↦[sendM.view.setOn (Rect.unit (s := S7x129x1024) ![2, 0, 0] S1x129x1024.size inb_S7x129x1024_S1x129x1024_2_0_0).set]{fullShare} fs2) from rfl)) $$ Hs2
  ihave Hs3 := (Entails.of_eq (show sendPts (F := F) c 3 fs3 = (sendM.view.loc (c : Thread nD τ) ↦[sendM.view.setOn (Rect.unit (s := S7x129x1024) ![3, 0, 0] S1x129x1024.size inb_S7x129x1024_S1x129x1024_3_0_0).set]{fullShare} fs3) from rfl)) $$ Hs3
  ihave Hs4 := (Entails.of_eq (show sendPts (F := F) c 4 fs4 = (sendM.view.loc (c : Thread nD τ) ↦[sendM.view.setOn (Rect.unit (s := S7x129x1024) ![4, 0, 0] S1x129x1024.size inb_S7x129x1024_S1x129x1024_4_0_0).set]{fullShare} fs4) from rfl)) $$ Hs4
  ihave Hs5 := (Entails.of_eq (show sendPts (F := F) c 5 fs5 = (sendM.view.loc (c : Thread nD τ) ↦[sendM.view.setOn (Rect.unit (s := S7x129x1024) ![5, 0, 0] S1x129x1024.size inb_S7x129x1024_S1x129x1024_5_0_0).set]{fullShare} fs5) from rfl)) $$ Hs5
  ihave Hs6 := (Entails.of_eq (show sendPts (F := F) c 6 fs6 = (sendM.view.loc (c : Thread nD τ) ↦[sendM.view.setOn (Rect.unit (s := S7x129x1024) ![6, 0, 0] S1x129x1024.size inb_S7x129x1024_S1x129x1024_6_0_0).set]{fullShare} fs6) from rfl)) $$ Hs6
  sl_exec_parts
  ihave HG := (sep_open _ _) $$ HatB_pay1
  icases HG with ⟨HR6, HG⟩
  ihave HG := (sep_open _ _) $$ HG
  icases HG with ⟨HR5, HG⟩
  ihave HG := (sep_open _ _) $$ HG
  icases HG with ⟨HR4, HG⟩
  ihave HG := (sep_open _ _) $$ HG
  icases HG with ⟨HR3, HG⟩
  ihave HG := (sep_open _ _) $$ HG
  icases HG with ⟨HR2, HG⟩
  ihave HG := (sep_open _ _) $$ HG
  icases HG with ⟨HR1, HR0⟩
  rw [rem_7 c]
  ihave #HIVP0 := (recvInv_at M K c 0) $$ HIVP
  icases HR0 with ⟨⟨%fr0, HR0⟩, Hrm0⟩
  iapply (wp_send_at M c 0) $$ [Hs0 HR0 HO HtS0 HtV0]
  · isplitr
    · ipureintro; exact ⟨dev8_eq c, rfl, rfl, rfl, rfl⟩
    isplitr; · iexact HIS0
    isplitr; · iexact HIVP0
    isplitl [Hs0]; · iexact Hs0
    isplitl [HR0]; · iexact HR0
    isplitl [HO]; · iexact HO
    isplitl [HtS0]; · iexact HtS0
    isplitr; · iexact HrS0
    isplitl [HtV0]; · iexact HtV0
    isplitr; · iexact HrVP0
    ipureintro
    refine ⟨rfl, rfl, ?_⟩
    refine Eq.trans ?_ (hM 0).symm
    exact stored_upper c (Ins.mk (F := F) g0 g1 g2 w3) 0 fs0 _ _ (readCov_sixteen (gathered c (Ins.mk (F := F) g0 g1 g2 w3) 1) (gathered c (Ins.mk (F := F) g0 g1 g2 w3) 2) _ inb_S256x4096_S256x4096_0_0)
      (readCov_stacked w3 (fun j => loaded j (![fe0, fe1, fe2, fe3, fe4, fe5, fe6, fe7] j) w3) (fun j => load_read j _ w3) inb_S4096x1024_S4096x1024_0_0) (by decide)
  iclear HIVP0
  iintro ⟨HcS0, HO⟩
  sl_exec_parts
  rw [rem_6 c]
  ihave #HIVP1 := (recvInv_at M K c 1) $$ HIVP
  icases HR1 with ⟨⟨%fr1, HR1⟩, Hrm1⟩
  iapply (wp_send_at M c 1) $$ [Hs1 HR1 HO HtS1 HtV1]
  · isplitr
    · ipureintro; exact ⟨dev9_eq c, rfl, rfl, rfl, rfl⟩
    isplitr; · iexact HIS1
    isplitr; · iexact HIVP1
    isplitl [Hs1]; · iexact Hs1
    isplitl [HR1]; · iexact HR1
    isplitl [HO]; · iexact HO
    isplitl [HtS1]; · iexact HtS1
    isplitr; · iexact HrS1
    isplitl [HtV1]; · iexact HtV1
    isplitr; · iexact HrVP1
    ipureintro
    refine ⟨rfl, rfl, ?_⟩
    refine Eq.trans ?_ (hM 1).symm
    exact stored_lower c (Ins.mk (F := F) g0 g1 g2 w3) 1 fs1 _ _ (readCov_sixteen (gathered c (Ins.mk (F := F) g0 g1 g2 w3) 1) (gathered c (Ins.mk (F := F) g0 g1 g2 w3) 2) _ inb_S256x4096_S256x4096_0_0)
      (readCov_stacked w3 (fun j => loaded j (![fe0, fe1, fe2, fe3, fe4, fe5, fe6, fe7] j) w3) (fun j => load_read j _ w3) inb_S4096x1024_S4096x1024_0_0) (by decide)
  iclear HIVP1
  iintro ⟨HcS1, HO⟩
  sl_exec_parts
  rw [rem_5 c]
  ihave #HIVP2 := (recvInv_at M K c 2) $$ HIVP
  icases HR2 with ⟨⟨%fr2, HR2⟩, Hrm2⟩
  iapply (wp_send_at M c 2) $$ [Hs2 HR2 HO HtS2 HtV2]
  · isplitr
    · ipureintro; exact ⟨dev10_eq c, rfl, rfl, rfl, rfl⟩
    isplitr; · iexact HIS2
    isplitr; · iexact HIVP2
    isplitl [Hs2]; · iexact Hs2
    isplitl [HR2]; · iexact HR2
    isplitl [HO]; · iexact HO
    isplitl [HtS2]; · iexact HtS2
    isplitr; · iexact HrS2
    isplitl [HtV2]; · iexact HtV2
    isplitr; · iexact HrVP2
    ipureintro
    refine ⟨rfl, rfl, ?_⟩
    refine Eq.trans ?_ (hM 2).symm
    exact stored_upper c (Ins.mk (F := F) g0 g1 g2 w3) 2 fs2 _ _ (readCov_sixteen (gathered c (Ins.mk (F := F) g0 g1 g2 w3) 3) (gathered c (Ins.mk (F := F) g0 g1 g2 w3) 4) _ inb_S256x4096_S256x4096_0_0)
      (readCov_stacked w3 (fun j => loaded j (![fe0, fe1, fe2, fe3, fe4, fe5, fe6, fe7] j) w3) (fun j => load_read j _ w3) inb_S4096x1024_S4096x1024_0_0) (by decide)
  iclear HIVP2
  iintro ⟨HcS2, HO⟩
  sl_exec_parts
  rw [rem_4 c]
  ihave #HIVP3 := (recvInv_at M K c 3) $$ HIVP
  icases HR3 with ⟨⟨%fr3, HR3⟩, Hrm3⟩
  iapply (wp_send_at M c 3) $$ [Hs3 HR3 HO HtS3 HtV3]
  · isplitr
    · ipureintro; exact ⟨dev11_eq c, rfl, rfl, rfl, rfl⟩
    isplitr; · iexact HIS3
    isplitr; · iexact HIVP3
    isplitl [Hs3]; · iexact Hs3
    isplitl [HR3]; · iexact HR3
    isplitl [HO]; · iexact HO
    isplitl [HtS3]; · iexact HtS3
    isplitr; · iexact HrS3
    isplitl [HtV3]; · iexact HtV3
    isplitr; · iexact HrVP3
    ipureintro
    refine ⟨rfl, rfl, ?_⟩
    refine Eq.trans ?_ (hM 3).symm
    exact stored_lower c (Ins.mk (F := F) g0 g1 g2 w3) 3 fs3 _ _ (readCov_sixteen (gathered c (Ins.mk (F := F) g0 g1 g2 w3) 3) (gathered c (Ins.mk (F := F) g0 g1 g2 w3) 4) _ inb_S256x4096_S256x4096_0_0)
      (readCov_stacked w3 (fun j => loaded j (![fe0, fe1, fe2, fe3, fe4, fe5, fe6, fe7] j) w3) (fun j => load_read j _ w3) inb_S4096x1024_S4096x1024_0_0) (by decide)
  iclear HIVP3
  iintro ⟨HcS3, HO⟩
  sl_exec_parts
  rw [rem_3 c]
  ihave #HIVP4 := (recvInv_at M K c 4) $$ HIVP
  icases HR4 with ⟨⟨%fr4, HR4⟩, Hrm4⟩
  iapply (wp_send_at M c 4) $$ [Hs4 HR4 HO HtS4 HtV4]
  · isplitr
    · ipureintro; exact ⟨dev12_eq c, rfl, rfl, rfl, rfl⟩
    isplitr; · iexact HIS4
    isplitr; · iexact HIVP4
    isplitl [Hs4]; · iexact Hs4
    isplitl [HR4]; · iexact HR4
    isplitl [HO]; · iexact HO
    isplitl [HtS4]; · iexact HtS4
    isplitr; · iexact HrS4
    isplitl [HtV4]; · iexact HtV4
    isplitr; · iexact HrVP4
    ipureintro
    refine ⟨rfl, rfl, ?_⟩
    refine Eq.trans ?_ (hM 4).symm
    exact stored_upper c (Ins.mk (F := F) g0 g1 g2 w3) 4 fs4 _ _ (readCov_sixteen (gathered c (Ins.mk (F := F) g0 g1 g2 w3) 5) (gathered c (Ins.mk (F := F) g0 g1 g2 w3) 6) _ inb_S256x4096_S256x4096_0_0)
      (readCov_stacked w3 (fun j => loaded j (![fe0, fe1, fe2, fe3, fe4, fe5, fe6, fe7] j) w3) (fun j => load_read j _ w3) inb_S4096x1024_S4096x1024_0_0) (by decide)
  iclear HIVP4
  iintro ⟨HcS4, HO⟩
  sl_exec_parts
  rw [rem_2 c]
  ihave #HIVP5 := (recvInv_at M K c 5) $$ HIVP
  icases HR5 with ⟨⟨%fr5, HR5⟩, Hrm5⟩
  iapply (wp_send_at M c 5) $$ [Hs5 HR5 HO HtS5 HtV5]
  · isplitr
    · ipureintro; exact ⟨dev13_eq c, rfl, rfl, rfl, rfl⟩
    isplitr; · iexact HIS5
    isplitr; · iexact HIVP5
    isplitl [Hs5]; · iexact Hs5
    isplitl [HR5]; · iexact HR5
    isplitl [HO]; · iexact HO
    isplitl [HtS5]; · iexact HtS5
    isplitr; · iexact HrS5
    isplitl [HtV5]; · iexact HtV5
    isplitr; · iexact HrVP5
    ipureintro
    refine ⟨rfl, rfl, ?_⟩
    refine Eq.trans ?_ (hM 5).symm
    exact stored_lower c (Ins.mk (F := F) g0 g1 g2 w3) 5 fs5 _ _ (readCov_sixteen (gathered c (Ins.mk (F := F) g0 g1 g2 w3) 5) (gathered c (Ins.mk (F := F) g0 g1 g2 w3) 6) _ inb_S256x4096_S256x4096_0_0)
      (readCov_stacked w3 (fun j => loaded j (![fe0, fe1, fe2, fe3, fe4, fe5, fe6, fe7] j) w3) (fun j => load_read j _ w3) inb_S4096x1024_S4096x1024_0_0) (by decide)
  iclear HIVP5
  iintro ⟨HcS5, HO⟩
  sl_exec_parts
  rw [rem_1 c]
  ihave #HIVP6 := (recvInv_at M K c 6) $$ HIVP
  icases HR6 with ⟨⟨%fr6, HR6⟩, Hrm6⟩
  iapply (wp_send_at M c 6) $$ [Hs6 HR6 HO HtS6 HtV6]
  · isplitr
    · ipureintro; exact ⟨dev14_eq c, rfl, rfl, rfl, rfl⟩
    isplitr; · iexact HIS6
    isplitr; · iexact HIVP6
    isplitl [Hs6]; · iexact Hs6
    isplitl [HR6]; · iexact HR6
    isplitl [HO]; · iexact HO
    isplitl [HtS6]; · iexact HtS6
    isplitr; · iexact HrS6
    isplitl [HtV6]; · iexact HtV6
    isplitr; · iexact HrVP6
    ipureintro
    refine ⟨rfl, rfl, ?_⟩
    refine Eq.trans ?_ (hM 6).symm
    exact stored_upper c (Ins.mk (F := F) g0 g1 g2 w3) 6 fs6 _ _ (readCov_sixteen (gathered c (Ins.mk (F := F) g0 g1 g2 w3) 7) (gathered c (Ins.mk (F := F) g0 g1 g2 w3) 0) _ inb_S256x4096_S256x4096_0_0)
      (readCov_stacked w3 (fun j => loaded j (![fe0, fe1, fe2, fe3, fe4, fe5, fe6, fe7] j) w3) (fun j => load_read j _ w3) inb_S4096x1024_S4096x1024_0_0) (by decide)
  iclear HIVP6
  iintro ⟨HcS6, HO⟩
  rw [rem_0 c]
  ihave HcV0 := (Entails.of_eq (congrArg (fun n => cred (tallyAt (recvCell c 0) () n)) N_eq_0)) $$ HcV0
  ihave HcV1 := (Entails.of_eq (congrArg (fun n => cred (tallyAt (recvCell c 1) () n)) N_eq_1)) $$ HcV1
  ihave HcV2 := (Entails.of_eq (congrArg (fun n => cred (tallyAt (recvCell c 2) () n)) N_eq_2)) $$ HcV2
  ihave HcV3 := (Entails.of_eq (congrArg (fun n => cred (tallyAt (recvCell c 3) () n)) N_eq_3)) $$ HcV3
  ihave HcV4 := (Entails.of_eq (congrArg (fun n => cred (tallyAt (recvCell c 4) () n)) N_eq_4)) $$ HcV4
  ihave HcV5 := (Entails.of_eq (congrArg (fun n => cred (tallyAt (recvCell c 5) () n)) N_eq_5)) $$ HcV5
  ihave HcV6 := (Entails.of_eq (congrArg (fun n => cred (tallyAt (recvCell c 6) () n)) N_eq_6)) $$ HcV6
  ihave HcS0 := (Entails.of_eq (congrArg (fun n => cred (tallyAt (sendCell c 0) () n)) N_send_0)) $$ HcS0
  ihave HcS1 := (Entails.of_eq (congrArg (fun n => cred (tallyAt (sendCell c 1) () n)) N_send_1)) $$ HcS1
  ihave HcS2 := (Entails.of_eq (congrArg (fun n => cred (tallyAt (sendCell c 2) () n)) N_send_2)) $$ HcS2
  ihave HcS3 := (Entails.of_eq (congrArg (fun n => cred (tallyAt (sendCell c 3) () n)) N_send_3)) $$ HcS3
  ihave HcS4 := (Entails.of_eq (congrArg (fun n => cred (tallyAt (sendCell c 4) () n)) N_send_4)) $$ HcS4
  ihave HcS5 := (Entails.of_eq (congrArg (fun n => cred (tallyAt (sendCell c 5) () n)) N_send_5)) $$ HcS5
  ihave HcS6 := (Entails.of_eq (congrArg (fun n => cred (tallyAt (sendCell c 6) () n)) N_send_6)) $$ HcS6
  sl_exec_parts
  imod (Rounds.cell_close ER (rd M) (Set.mem_univ (K.send c 0)) (fun h => h) (R := 0 + 1) (duties_later M (sendCell c 0))) $$ [HatS0] with HatS0
  · isplitr; · iexact HIS0
    iexact HatS0
  imod (Rounds.cell_close ER (rd M) (Set.mem_univ (K.send c 1)) (fun h => h) (R := 0 + 1) (duties_later M (sendCell c 1))) $$ [HatS1] with HatS1
  · isplitr; · iexact HIS1
    iexact HatS1
  imod (Rounds.cell_close ER (rd M) (Set.mem_univ (K.send c 2)) (fun h => h) (R := 0 + 1) (duties_later M (sendCell c 2))) $$ [HatS2] with HatS2
  · isplitr; · iexact HIS2
    iexact HatS2
  imod (Rounds.cell_close ER (rd M) (Set.mem_univ (K.send c 3)) (fun h => h) (R := 0 + 1) (duties_later M (sendCell c 3))) $$ [HatS3] with HatS3
  · isplitr; · iexact HIS3
    iexact HatS3
  imod (Rounds.cell_close ER (rd M) (Set.mem_univ (K.send c 4)) (fun h => h) (R := 0 + 1) (duties_later M (sendCell c 4))) $$ [HatS4] with HatS4
  · isplitr; · iexact HIS4
    iexact HatS4
  imod (Rounds.cell_close ER (rd M) (Set.mem_univ (K.send c 5)) (fun h => h) (R := 0 + 1) (duties_later M (sendCell c 5))) $$ [HatS5] with HatS5
  · isplitr; · iexact HIS5
    iexact HatS5
  imod (Rounds.cell_close ER (rd M) (Set.mem_univ (K.send c 6)) (fun h => h) (R := 0 + 1) (duties_later M (sendCell c 6))) $$ [HatS6] with HatS6
  · isplitr; · iexact HIS6
    iexact HatS6
  imod (Rounds.cell_close ER (rd M) (Set.mem_univ (K.recv c 0)) (fun h => h) (R := 0 + 1) (duties_later M (recvCell c 0))) $$ [HatV0] with HatV0
  · isplitr; · iexact HIV0
    iexact HatV0
  imod (Rounds.cell_close ER (rd M) (Set.mem_univ (K.recv c 1)) (fun h => h) (R := 0 + 1) (duties_later M (recvCell c 1))) $$ [HatV1] with HatV1
  · isplitr; · iexact HIV1
    iexact HatV1
  imod (Rounds.cell_close ER (rd M) (Set.mem_univ (K.recv c 2)) (fun h => h) (R := 0 + 1) (duties_later M (recvCell c 2))) $$ [HatV2] with HatV2
  · isplitr; · iexact HIV2
    iexact HatV2
  imod (Rounds.cell_close ER (rd M) (Set.mem_univ (K.recv c 3)) (fun h => h) (R := 0 + 1) (duties_later M (recvCell c 3))) $$ [HatV3] with HatV3
  · isplitr; · iexact HIV3
    iexact HatV3
  imod (Rounds.cell_close ER (rd M) (Set.mem_univ (K.recv c 4)) (fun h => h) (R := 0 + 1) (duties_later M (recvCell c 4))) $$ [HatV4] with HatV4
  · isplitr; · iexact HIV4
    iexact HatV4
  imod (Rounds.cell_close ER (rd M) (Set.mem_univ (K.recv c 5)) (fun h => h) (R := 0 + 1) (duties_later M (recvCell c 5))) $$ [HatV5] with HatV5
  · isplitr; · iexact HIV5
    iexact HatV5
  imod (Rounds.cell_close ER (rd M) (Set.mem_univ (K.recv c 6)) (fun h => h) (R := 0 + 1) (duties_later M (recvCell c 6))) $$ [HatV6] with HatV6
  · isplitr; · iexact HIV6
    iexact HatV6
  imod (Rounds.cell_close ER (rd M) (Set.mem_univ (K.bar c)) (fun h => h) (R := 0 + 1) (duties_later M (barCell c))) $$ [HatB] with HatB
  · isplitr; · iexact HIB
    iexact HatB
  rw [wp_ret]; imodintro
  iapply Hk
  unfold finished
  isplitl [HO]; · iexists _; iexact HO
  isplitl [HatB]; · iexact HatB
  isplitl [HatS0 HatS1 HatS2 HatS3 HatS4 HatS5 HatS6]
  · iapply (Entails.of_eq (bigSep_fin7 _).symm)
    isplitl [HatS0]; · iexact HatS0
    isplitl [HatS1]; · iexact HatS1
    isplitl [HatS2]; · iexact HatS2
    isplitl [HatS3]; · iexact HatS3
    isplitl [HatS4]; · iexact HatS4
    isplitl [HatS5]; · iexact HatS5
    iexact HatS6
  isplitl [HatV0 HatV1 HatV2 HatV3 HatV4 HatV5 HatV6]
  · iapply (Entails.of_eq (bigSep_fin7 _).symm)
    isplitl [HatV0]; · iexact HatV0
    isplitl [HatV1]; · iexact HatV1
    isplitl [HatV2]; · iexact HatV2
    isplitl [HatV3]; · iexact HatV3
    isplitl [HatV4]; · iexact HatV4
    isplitl [HatV5]; · iexact HatV5
    iexact HatV6
  isplitl [Hl0 Hl1 Hl2 Hl3 Hl4 Hl5 Hl6 Hl7]
  · iapply (Entails.of_eq (bigSep_fin8 _).symm)
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  isplitl [Hx]; · iexact Hx
  isplitl [Hrw]; · iexact Hrw
  isplitl [Hidx]; · iexact Hidx
  isplitl [Hw]; · iexact Hw
  isplitl [Hout]
  · iapply (Entails.of_eq (congrArg (fun g => ((Memref.whole cc0_stg3_0).view.loc (c : Thread nD τ) ↦[(Memref.whole cc0_stg3_0).view.set]{fullShare} g : sProp 𝕄))
      (stored_total c (Ins.mk (F := F) g0 g1 g2 w3) (fun j => M (peer j.rev c) j) f3 _ _
        (readCov_sixteen (gathered c (Ins.mk (F := F) g0 g1 g2 w3) 7) (gathered c (Ins.mk (F := F) g0 g1 g2 w3) 0) _ inb_S256x4096_S256x4096_0_0)
        (readCov_stacked w3 (fun j => loaded j (![fe0, fe1, fe2, fe3, fe4, fe5, fe6, fe7] j) w3) (fun j => load_read j _ w3) inb_S4096x1024_S4096x1024_0_0)
        (fun j => loadNumbers c (M (peer j.rev c) j) j) (fun j => loadResults c (M (peer j.rev c) j) j) rfl rfl)))
    iexact Hout
  isplitl [Hwbf]; · iexists _; iexact Hwbf
  isplitl [Hxsc]; · iexists _; iexact Hxsc
  isplitl [Hcoef]; · iexists _; iexact Hcoef
  isplitl [He0 He1 He2 He3 He4 He5 He6 He7]
  · iapply (Entails.of_eq (bigSep_fin8 _).symm)
    isplitl [He0]; · iexists _; unfold loadPts; iexact He0
    isplitl [He1]; · iexists _; unfold loadPts; iexact He1
    isplitl [He2]; · iexists _; unfold loadPts; iexact He2
    isplitl [He3]; · iexists _; unfold loadPts; iexact He3
    isplitl [He4]; · iexists _; unfold loadPts; iexact He4
    isplitl [He5]; · iexists _; unfold loadPts; iexact He5
    isplitl [He6]; · iexists _; unfold loadPts; iexact He6
    iexists _; unfold loadPts; iexact He7
  isplitl [HatS0_pay1 HatS1_pay1 HatS2_pay1 HatS3_pay1 HatS4_pay1 HatS5_pay1 HatS6_pay1]
  · iapply (Entails.of_eq (bigSep_fin7 _).symm)
    isplitl [HatS0_pay1]; · iexists _; unfold sendPts; iexact HatS0_pay1
    isplitl [HatS1_pay1]; · iexists _; unfold sendPts; iexact HatS1_pay1
    isplitl [HatS2_pay1]; · iexists _; unfold sendPts; iexact HatS2_pay1
    isplitl [HatS3_pay1]; · iexists _; unfold sendPts; iexact HatS3_pay1
    isplitl [HatS4_pay1]; · iexists _; unfold sendPts; iexact HatS4_pay1
    isplitl [HatS5_pay1]; · iexists _; unfold sendPts; iexact HatS5_pay1
    iexists _; unfold sendPts; iexact HatS6_pay1
  iapply (Entails.of_eq (bigSep_fin7 _).symm)
  isplitl [HatV0_pay1]; · iexists _; unfold recvPts; iexact HatV0_pay1
  isplitl [HatV1_pay1]; · iexists _; unfold recvPts; iexact HatV1_pay1
  isplitl [HatV2_pay1]; · iexists _; unfold recvPts; iexact HatV2_pay1
  isplitl [HatV3_pay1]; · iexists _; unfold recvPts; iexact HatV3_pay1
  isplitl [HatV4_pay1]; · iexists _; unfold recvPts; iexact HatV4_pay1
  isplitl [HatV5_pay1]; · iexists _; unfold recvPts; iexact HatV5_pay1
  iexists _; unfold recvPts; iexact HatV6_pay1

end Cert.KernelIdeal.Moe

end
-- ==== Proof.KernelIdeal.Deal.lean ====
/-
# What the launch deals out

The cells of all devices are funded at once: every device gets the positions of its own fifteen cells, and the duty tokens
are dealt to the devices that pay with them. A barrier token and an arrival token numbered `j` travel `j + 1` places
backwards round the ring, so that device `c` ends with those of `peer j c`.
-/
module

public import proofs.«01_k».proof.Proof.KernelIdeal.Steps

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (M : Dev nD → Fin 7 → Vec F S129x1024 .bf16)

/-! ## The fifteen cells of a device -/

/-- The barrier, the seven departures, the seven arrivals. -/
abbrev Which : Type := Unit ⊕ Fin 7 ⊕ Fin 7

def semOf : Which → SemLoc sig
  | .inl _ => .reg barS
  | .inr (.inl j) => .dma (sendS j)
  | .inr (.inr j) => .dma (recvS j)

def cellAt (ck : Dev nD × Which) : GSem nD τ sig := ((ck.1 : Thread nD τ), semOf ck.2)

theorem semOf_inj : Function.Injective semOf := by decide

theorem cellAt_inj : Function.Injective cellAt := by
  rintro ⟨c, k⟩ ⟨c', k'⟩ h
  have h1 : c = c' := congrArg (fun g : GSem nD τ sig => g.1.1) h
  have h2 : k = k' := semOf_inj (congrArg Prod.snd h)
  rw [h1, h2]

/-- Every cell of the exchange. -/
def cells : Finset (GSem nD τ sig) := Finset.univ.map ⟨cellAt, cellAt_inj⟩

/-- The duties of a device's own cells: seven on its barrier, one on each other cell. -/
def dutyOf (cj : Dev nD × (Fin 7 ⊕ Fin 7 ⊕ Fin 7)) : GSem nD τ sig × ℕ × Fin 7 :=
  match cj.2 with
  | .inl j => (barCell cj.1, 0, j)
  | .inr (.inl j) => (sendCell cj.1 j, 0, 0)
  | .inr (.inr j) => (recvCell cj.1 j, 0, 0)

theorem sendS_inj {j j' : Fin 7} (h : sendS j = sendS j') : j = j' := by revert j j'; decide
theorem recvS_inj {j j' : Fin 7} (h : recvS j = recvS j') : j = j' := by revert j j'; decide
theorem sendS_ne_recvS (j j' : Fin 7) : sendS j ≠ recvS j' := by revert j j'; decide

theorem dutyOf_inj : Function.Injective dutyOf := by
  rintro ⟨c, j⟩ ⟨c', j'⟩ h
  have hc : c = c' := by
    have := congrArg (fun x : GSem nD τ sig × ℕ × Fin 7 => x.1.1.1) h
    rcases j with j | j | j <;> rcases j' with j' | j' | j' <;> exact this
  subst hc
  have h1 := congrArg (fun x : GSem nD τ sig × ℕ × Fin 7 => x.1.2) h
  have h2 := congrArg (fun x : GSem nD τ sig × ℕ × Fin 7 => x.2.2) h
  rcases j with j | j | j <;> rcases j' with j' | j' | j' <;> simp only [dutyOf, SemLoc.dma.injEq, reduceCtorEq] at h1 h2
  · rw [h2]
  · rw [sendS_inj h1]
  · exact absurd h1 (sendS_ne_recvS j j')
  · exact absurd h1.symm (sendS_ne_recvS j' j)
  · rw [recvS_inj h1]

/-- Every duty token of the exchange. -/
def duties : Finset (GSem nD τ sig × ℕ × Fin 7) := Finset.univ.map ⟨dutyOf, dutyOf_inj⟩

/-- The ghost state at launch: the pipeline library's and the exchange's. -/
def u₀ : UU := (initOf (Pipeline.cells cfgs cellOf_inj) (Pipeline.launchToks cfgs cellOf_inj), (initOf cells duties, 1))

/-- The tokens of the duties of `c`'s own cells. -/
def ownTokens (c : Dev nD) : sProp 𝕄 :=
  iprop((bigSep Finset.univ fun j => dutyTok ER (barCell c) 0 j)
    ∗ (bigSep Finset.univ fun j => dutyTok ER (sendCell c j) 0 0)
    ∗ (bigSep Finset.univ fun j => dutyTok ER (recvCell c j) 0 0))

/-- What `c` gets of the launch's ghost state before anything is allocated. -/
def dealt (c : Dev nD) : sProp 𝕄 :=
  iprop((bigSep Finset.univ fun k => roundState ER (rd M) (cellAt (c, k)) 0)
    ∗ (bigSep Finset.univ fun k => iprop(atPos ER (cellAt (c, k)) 0 ∅ 0 ∗ reached ER (cellAt (c, k)) 0))
    ∗ ownTokens c)

omit [FloatOps F] in
/-- A family over the kinds of cell is its barrier member, its departures and its arrivals. -/
theorem bigSep_which (Φ : Which → sProp 𝕄) :
    bigSep Finset.univ Φ = iprop(Φ (.inl ()) ∗ (bigSep Finset.univ fun j => Φ (.inr (.inl j))) ∗ bigSep Finset.univ fun j => Φ (.inr (.inr j))) := by
  rw [BI.bigSep_univ_sum, BI.bigSep_univ_sum, Finset.univ_unique (α := Unit), BI.bigSep_singleton]; rfl

omit [FloatOps F] in
/-- The exchange's ghost state, dealt to the devices. -/
theorem fund_exchange : BI.own (ER (initOf cells duties)) ⊢ (|==> bigSep Finset.univ (dealt M) : sProp 𝕄) := by
  have hX (Φ : GSem nD τ sig → sProp 𝕄) : bigSep cells Φ = bigSep Finset.univ fun c : Dev nD => bigSep Finset.univ fun k : Which => Φ (cellAt (c, k)) := by
    unfold cells; rw [bigSep_map, bigSep_univ_prod]; rfl
  have hT : bigSep duties (fun x => (dutyTok ER x.1 x.2.1 x.2.2 : sProp 𝕄)) = bigSep Finset.univ fun c : Dev nD => ownTokens c := by
    unfold duties; rw [bigSep_map, bigSep_univ_prod]
    exact bigSep_congr fun c _ => by unfold ownTokens; rw [BI.bigSep_univ_sum, BI.bigSep_univ_sum]; rfl
  iintro HX
  imod (Rounds.fund ER (rd M) cells duties) $$ HX with ⟨Hst, Hr, Hat, Htok⟩
  imodintro
  ihave Hst' := (Entails.of_eq (hX fun g => roundState ER (rd M) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The kernel's own semaphores -/

/-- The 22 DMA semaphores that are the kernel's: departures, arrivals, weight loads. -/
abbrev osem : Fin 22 → SemLoc sig := fun i => .dma ⟨4 + i.val, by have := i.isLt; show 4 + i.val < 26; omega⟩

theorem ownSemFacts : Pipeline.OwnSemFacts cfg0.spec osem := by decide

/-- They are counted seven, seven and eight. -/
def kinds : (Fin 7 ⊕ Fin 7 ⊕ Fin 8) ≃ Fin 22 := (Equiv.sumCongr (Equiv.refl (Fin 7)) (finSumFinEquiv (m := 7) (n := 8))).trans (finSumFinEquiv (m := 7) (n := 15))
theorem osem_send (j : Fin 7) : osem (kinds (.inl j)) = .dma (sendS j) := by revert j; decide
theorem osem_recv (j : Fin 7) : osem (kinds (.inr (.inl j))) = .dma (recvS j) := by revert j; decide
theorem osem_load (j : Fin 8) : osem (kinds (.inr (.inr j))) = .dma (loadS j) := by revert j; decide

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ (bigSep Finset.univ fun j => semVal (recvCell c j) 0)
        ∗ bigSep Finset.univ fun j => semVal (loadCell c j) 0) := by
  unfold Pipeline.ownSems0
  rw [bigSep_univ_equiv kinds, BI.bigSep_univ_sum, BI.bigSep_univ_sum]
  simp only [osem_send, osem_recv, osem_load]
  rfl

omit [FloatOps F] in
/-- The barrier semaphore is the one that outlives the kernel. -/
theorem unscopedSems_eq (c : Dev nD) : (unscopedSems0 c : sProp 𝕄) = semVal (barCell c) 0 := by
  unfold unscopedSems0; rw [bigSep_eq_bigSepL_of_eq [SemLoc.reg barS] (by decide) (by decide)]; rfl

/-! ## The cells' invariants -/

omit [FloatOps F] in
/-- Device `c`'s cells, allocated. -/
theorem alloc_cells (c : Dev nD) :
    iprop(Pipeline.ownSems0 (Ix := Unit) (Name := ℕ) (U := UU) (Lvl := ℕ) (Val := Elt F) (τ := τ) osem c ∗ unscopedSems0 c ∗ dealt M c)
      ⊢ |={Set.univ}=> iprop((bigSep Finset.univ fun k => iprop(∃ κ : ℕ, cellInv ER (rd M) κ (cellAt (c, k))))
          ∗ (bigSep Finset.univ fun k => iprop(atPos ER (cellAt (c, k)) 0 ∅ 0 ∗ reached ER (cellAt (c, k)) 0)) ∗ ownTokens c
          ∗ bigSep Finset.univ fun j => semVal (loadCell c j) 0) := by
  unfold dealt
  rw [ownSems_eq, unscopedSems_eq]
  iintro ⟨⟨HS, HV, HL⟩, HB, Hst, Hat, Htok⟩
  ihave Hv := (Entails.of_eq (bigSep_which (F := F) fun k => semVal (cellAt (c, k)) 0).symm) $$ [HS HV HB]
  · isplitl [HB]; · iexact HB
    isplitl [HS]; · iexact HS
    iexact HV
  imod (show iprop((bigSep Finset.univ fun k : Which => semVal (cellAt (c, k)) 0) ∗ bigSep Finset.univ fun k : Which => roundState ER (rd M) (cellAt (c, k)) 0)
      ⊢ (|={Set.univ}=> bigSep Finset.univ fun k => iprop(∃ κ : ℕ, cellInv ER (rd M) κ (cellAt (c, k))) : sProp 𝕄) from by
        rw [← bigSep_sep']
        exact (bigSep_mono fun k _ => (Rounds.body_intro ER (rd M) (cellAt (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- The names of all cells, sorted by kind. -/
def namesOf (κ : Dev nD × Which → ℕ) : Names := ⟨fun c => κ (c, .inl ()), fun c j => κ (c, .inr (.inl j)), fun c j => κ (c, .inr (.inr j))⟩

/-- Every cell's invariant and every cell's start, which all devices share. -/
def records (κ : Dev nD × Which → ℕ) : sProp 𝕄 :=
  iprop((bigSep Finset.univ fun ck : Dev nD × Which => cellInv ER (rd M) (κ ck) (cellAt ck))
    ∗ bigSep Finset.univ fun ck : Dev nD × Which => reached ER (cellAt ck) 0)

instance records_persistent (κ : Dev nD × Which → ℕ) : BI.Persistent (records M κ) := by unfold records; infer_instance

omit [FloatOps F] in
theorem record_inv (κ : Dev nD × Which → ℕ) (ck : Dev nD × Which) : records M κ ⊢ cellInv ER (rd M) (κ ck) (cellAt ck) := by
  unfold records; exact sep_elim_left.trans (bigSep_elim (Finset.mem_univ ck))
omit [FloatOps F] in
theorem record_reached (κ : Dev nD × Which → ℕ) (ck : Dev nD × Which) : records M κ ⊢ reached ER (cellAt ck) 0 := by
  unfold records; exact sep_elim_right.trans (bigSep_elim (Finset.mem_univ ck))

omit [FloatOps F] in
/-- A shared fact gives every member of a family that it gives one by one. -/
theorem share {I : Type} [DecidableEq I] (S : Finset I) {R : sProp 𝕄} [BI.Persistent R] {Φ : I → sProp 𝕄} (h : ∀ i, R ⊢ Φ i) : R ⊢ bigSep S Φ :=
  (BI.bigSep_of_persistent S R).trans (bigSep_mono fun i _ => h i)

omit [FloatOps F] in
theorem records_invs (κ : Dev nD × Which → ℕ) (c : Dev nD) : records M κ ⊢ invs M (namesOf κ) c := by
  unfold invs
  iintro #H
  isplitr; · iapply (record_inv M κ (c, .inl ())); iexact H
  isplitr; · iapply (share Finset.univ fun j => record_inv M κ (c, .inr (.inl j))); iexact H
  isplitr; · iapply (share Finset.univ fun j => record_inv M κ (c, .inr (.inr j))); iexact H
  isplitr; · iapply (share Finset.univ fun j => record_inv M κ (peer j c, .inl ())); iexact H
  iapply (share Finset.univ fun j => record_inv M κ (peer j c, .inr (.inr j))); iexact H

omit [FloatOps F] in
theorem records_marks (κ : Dev nD × Which → ℕ) (c : Dev nD) : records M κ ⊢ marks c := by
  unfold marks
  iintro #H
  isplitr; · iapply (share Finset.univ fun j => record_reached M κ (peer j c, .inl ())); iexact H
  isplitr; · iapply (share Finset.univ fun j => record_reached M κ (c, .inr (.inl j))); iexact H
  isplitr; · iapply (share Finset.univ fun j => record_reached M κ (c, .inr (.inr j))); iexact H
  iapply (share Finset.univ fun j => record_reached M κ (peer j c, .inr (.inr j))); iexact H

omit [FloatOps F] in
/-- A family over devices and distances is the same family with every distance's devices moved along the ring. -/
theorem around (Φ : Dev nD → Fin 7 → sProp 𝕄) :
    (bigSep Finset.univ fun c => bigSep Finset.univ fun j => Φ c j) = bigSep Finset.univ fun c => bigSep Finset.univ fun j => Φ (peer j c) j := by
  rw [← bigSep_univ_prod (fun p : Dev nD × Fin 7 => Φ p.1 p.2), ← bigSep_univ_prod (fun p : Dev nD × Fin 7 => Φ (peer p.2 p.1) p.2)]
  exact bigSep_univ_equiv ⟨fun p => (peer p.2 p.1, p.2), fun p => (peer p.2.rev p.1, p.2),
    fun p => Prod.ext (peer_rev_peer p.2 p.1) rfl, fun p => Prod.ext (peer_peer_rev p.2 p.1) rfl⟩ fun p : Dev nD × Fin 7 => Φ p.1 p.2

omit [FloatOps F] in
/-- The tokens, dealt to those who pay with them. -/
theorem tokens_around : (bigSep Finset.univ fun c : Dev nD => (ownTokens c : sProp 𝕄)) = bigSep Finset.univ fun c : Dev nD => tokens c := by
  unfold ownTokens tokens
  rw [bigSep_sep', bigSep_sep', bigSep_sep', bigSep_sep', around fun c j => dutyTok ER (barCell c) 0 j,
    around fun c j => dutyTok ER (recvCell c j) 0 0]

/-- What a device's body starts from of the exchange, at some names; and its load semaphores, which the exchange leaves alone. -/
def ready (c : Dev nD) : sProp 𝕄 :=
  iprop((∃ K, invs M K c ∗ marks c ∗ places c ∗ tokens c) ∗ bigSep Finset.univ fun j => semVal (loadCell c j) 0)

omit [FloatOps F] in
theorem ready_intro (κ : Dev nD × Which → ℕ) (c : Dev nD) :
    iprop(records M κ ∗ ((bigSep Finset.univ fun k => atPos ER (cellAt (c, k)) 0 ∅ 0) ∗ tokens c ∗ bigSep Finset.univ fun j => semVal (loadCell c j) 0)) ⊢ ready M c := by
  unfold ready
  rw [bigSep_which]
  iintro ⟨#H, Hat, Ht, HL⟩
  isplitl [Hat Ht]
  · iexists (namesOf κ)
    isplitr; · iapply (records_invs M κ c); iexact H
    isplitr; · iapply (records_marks M κ c); iexact H
    isplitl [Hat]
    · unfold places; iexact Hat
    iexact Ht
  iexact HL

omit [FloatOps F] in
theorem regroup :
    (bigSep Finset.univ fun c : Dev nD => iprop((bigSep Finset.univ fun k => iprop(∃ κ : ℕ, cellInv ER (rd M) κ (cellAt (c, k))))
          ∗ (bigSep Finset.univ fun k => iprop(atPos ER (cellAt (c, k)) 0 ∅ 0 ∗ reached ER (cellAt (c, k)) 0)) ∗ ownTokens c
          ∗ bigSep Finset.univ fun j => semVal (loadCell c j) 0) : sProp 𝕄)
      ⊢ bigSep Finset.univ (ready M) := by
  rw [bigSep_sep', bigSep_sep', bigSep_sep', ← bigSep_univ_prod (fun ck : Dev nD × Which => iprop(∃ κ : ℕ, cellInv ER (rd M) κ (cellAt ck))),
    bigSep_congr (s := Finset.univ) (fun (c : Dev nD) _ => bigSep_sep' Finset.univ (fun k : Which => (atPos ER (cellAt (c, k)) 0 ∅ 0 : sProp 𝕄)) (fun k => reached ER (cellAt (c, k)) 0)),
    bigSep_sep', ← bigSep_univ_prod (fun ck : Dev nD × Which => (reached ER (cellAt ck) 0 : sProp 𝕄)), tokens_around]
  iintro ⟨HI, ⟨Hat, #HR⟩, Htok, HL⟩
  ihave HK := (BI.bigSep_exists_pi Finset.univ (fun (ck : Dev nD × Which) (κ : ℕ) => (cellInv ER (rd M) κ (cellAt ck) : sProp 𝕄))) $$ HI
  icases HK with ⟨%κ, #HI⟩
  iapply ((sep_mono_left (BI.bigSep_of_persistent Finset.univ (records M κ))).trans
    ((Entails.of_eq (bigSep_sep' Finset.univ (fun _ : Dev nD => records M κ)
      (fun c => iprop((bigSep Finset.univ fun k => atPos ER (cellAt (c, k)) 0 ∅ 0) ∗ tokens c ∗ bigSep Finset.univ fun j => semVal (loadCell c j) 0))).symm).trans
      (bigSep_mono fun c _ => ready_intro M κ c)))
  isplitr
  · unfold records; isplitl; · iexact HI
    iexact HR
  · simp only [bigSep_sep']
    isplitl [Hat]; · iexact Hat
    isplitl [Htok]; · iexact Htok
    iexact HL

omit [FloatOps F] in
/-- All devices' cells at once. -/
theorem alloc_all : (bigSep Finset.univ fun c => iprop(Pipeline.ownSems0 (Ix := Unit) (Name := ℕ) (U := UU) (Lvl := ℕ) (Val := Elt F) (τ := τ) osem c ∗ unscopedSems0 c ∗ dealt M c) : sProp 𝕄)
    ⊢ |={Set.univ}=> bigSep Finset.univ (ready M) :=
  ((bigSep_mono fun c _ => alloc_cells M c).trans (bigSep_fupd _ _)).trans (BI.fupd_mono (regroup M))

/-! ## The credit -/

theorem bar_iff {a b : Dev nD} : barCell a = barCell b ↔ a = b :=
  ⟨fun h => congrArg (fun g : GSem nD τ sig => g.1.1) h, fun h => h ▸ rfl⟩
theorem recv_iff {a b : Dev nD} {j j' : Fin 7} : recvCell a j = recvCell b j' ↔ a = b ∧ j = j' := by
  constructor
  · intro h
    refine ⟨congrArg (fun g : GSem nD τ sig => g.1.1) h, recvS_inj ?_⟩
    have := congrArg Prod.snd h
    simpa using this
  · rintro ⟨rfl, rfl⟩; rfl
theorem recv_ne_bar (a b : Dev nD) (j : Fin 7) : recvCell a j ≠ barCell b := fun h => by
  have := congrArg Prod.snd h
  cases this

/-- What the messages of `d` still owe no barrier cell. -/
theorem rem_bar (d c : Dev nD) (r : ℕ) : rem d r (barCell c) () = 0 := by
  induction r with
  | zero => rfl
  | succ r ih =>
    rw [rem, Pi.add_apply, Finsupp.add_apply, ih, tallyAt_apply, if_neg fun h => recv_ne_bar _ _ _ h.1.symm]

/-- Device `d` owes each other device's barrier one unit. -/
theorem owed_bar (d c : Dev nD) : O₀ d (barCell c) () = if c = d then 0 else 1 := by
  unfold O₀
  simp only [dues, Pi.add_apply, Finsupp.add_apply, rem_bar, tallyAt_apply, bar_iff, and_true]
  revert d c; decide

/-- The barrier signals owe no arrival cell. -/
theorem dues_recv (d c : Dev nD) (j : Fin 7) (r : ℕ) : dues d r (recvCell c j) () = rem d 7 (recvCell c j) () := by
  induction r with
  | zero => rfl
  | succ r ih =>
    rw [dues, Pi.add_apply, Finsupp.add_apply, ih, tallyAt_apply, if_neg fun h => recv_ne_bar _ _ _ h.1, Nat.add_zero]

/-- Arrival cell `j` of `c` is owed one message, by the device whose message `j` goes to `c`. -/
theorem owed_recv (d c : Dev nD) (j : Fin 7) : O₀ d (recvCell c j) () = if d = peer j.rev c then N else 0 := by
  unfold O₀
  rw [dues_recv]
  simp only [rem, Pi.add_apply, Finsupp.add_apply, tallyAt_apply, recv_iff, and_true]
  have key : ∀ (d c : Dev nD) (j k : Fin 7), (c = peer k d ∧ j = k) ↔ (j = k ∧ d = peer j.rev c) := by decide
  simp only [key]
  by_cases h : d = peer j.rev c
  · simp only [h, and_true, if_true]
    generalize N = n
    fin_cases j <;> simp (decide := true)
  · simp [h]

theorem credit_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem credit_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer j.rev c) fun _ => N, if_pos (Finset.mem_univ _)]

/-- The cells a device's launch credit is needed for. -/
def creditSem : Unit ⊕ Fin 7 ↪ SemLoc sig := ⟨fun | .inl _ => .reg barS | .inr j => .dma (recvS j), by decide⟩

omit [FloatOps F] in
theorem credits_intro (c : Dev nD) : (Pipeline.launchCred O₀ c : sProp 𝕄) ⊢ credits c := by
  have e : (iprop(cred (tallyAt (barCell c) () 7) ∗ bigSep Finset.univ fun j => cred (tallyAt (recvCell c j) () N)) : sProp 𝕄)
      = bigSep (Finset.univ.map creditSem) fun sm => cred (tallyOn ((c : Thread nD τ), sm) (launchCredit (Pipeline.owing O₀) 0 ((c : Thread nD τ), sm))) := by
    rw [bigSep_map, BI.bigSep_univ_sum, Finset.univ_unique (α := Unit), BI.bigSep_singleton, ← credit_bar,
      bigSep_congr (s := Finset.univ) fun (j : Fin 7) _ => congrArg cred (credit_recv c j).symm]
    rfl
  unfold Pipeline.launchCred credits
  rw [e]
  exact bigSep_subset (Finset.subset_univ _)

end Cert.KernelIdeal.Moe

end
-- ==== Proof.KernelIdeal.Whole.lean ====
/-
# The whole kernel

The body's run (Run.lean) under the launch: from any memory with every counter at zero the eight devices' kernels end, every
counter is zero again, the four arguments hold what they held, and each device's result is `result` of all devices' inputs.
-/
module

public import proofs.«01_k».proof.Proof.KernelIdeal.Run
public import proofs.«01_k».proof.Proof.KernelIdeal.Deal
public import proofs.«01_k».proof.Proof.Gen.KernelIdeal.Frame
public import Idealize.ShloMosaic.Lib.Pipeline.CollectiveSegs
public import Idealize.ShloMosaic.Lib.Pipeline.ValueKit.Geometry

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## The buffers that are held slot by slot -/

section Slots

theorem mem_slot (j : Fin 7) (i : S7x129x1024.Idx) : i ∈ (slotR j).set ↔ i 0 = j := by
  rw [Rect.mem_set_unit (inb := slot_inb j)]
  constructor
  · intro h
    have := h 0
    simp at this
    exact Fin.ext (by omega)
  · rintro rfl a
    fin_cases a
    · exact ⟨le_rfl, Nat.lt_succ_self _⟩
    · exact ⟨Nat.zero_le _, by have := (i 1).isLt; simpa using this⟩
    · exact ⟨Nat.zero_le _, by have := (i 2).isLt; simpa using this⟩

theorem mem_load (j : Fin 8) (i : S8x512x1024.Idx) : i ∈ (loadR j).set ↔ i 0 = j := by
  rw [Rect.mem_set_unit (inb := load_inb j)]
  constructor
  · intro h
    have := h 0
    simp at this
    exact Fin.ext (by omega)
  · rintro rfl a
    fin_cases a
    · exact ⟨le_rfl, Nat.lt_succ_self _⟩
    · exact ⟨Nat.zero_le _, by have := (i 1).isLt; simpa using this⟩
    · exact ⟨Nat.zero_le _, by have := (i 2).isLt; simpa using this⟩

/-- A buffer at some contents is its slots, each at some contents, when the slots are told apart by a coordinate. -/
theorem whole_slots {n : ℕ} {ℓ : Loc nD τ sig} (S : Fin (n + 1) → Finset (Idx ℓ)) (t : Idx ℓ → Fin (n + 1)) (h : ∀ j i, i ∈ S j ↔ t i = j) :
    (iprop(∃ f, ℓ ↦{fullShare} f) : sProp 𝕄) ⊢ bigSep Finset.univ fun j => iprop(∃ f, ℓ ↦[S j]{fullShare} f) := by
  have hd : ∀ j ∈ (Finset.univ : Finset (Fin (n + 1))), ∀ k ∈ (Finset.univ : Finset (Fin (n + 1))), j ≠ k → Disjoint (S j) (S k) :=
    fun j _ k _ hne => Finset.disjoint_left.mpr fun i hi hk => hne (((h j i).mp hi).symm.trans ((h k i).mp hk))
  have hu : (Finset.univ : Finset (Fin (n + 1))).biUnion S = Finset.univ := by
    ext i; simp only [Finset.mem_biUnion, Finset.mem_univ, true_and, iff_true]; exact ⟨t i, (h _ i).mpr rfl⟩
  iintro ⟨%f, H⟩
  ihave H := (Entails.of_eq (show (ℓ ↦{fullShare} f : sProp 𝕄) = bigSep Finset.univ fun j => ℓ ↦[S j]{fullShare} f by
    rw [← pointsTo_biUnion Finset.univ S hd, hu])) $$ H
  have hm : (bigSep Finset.univ fun j => ℓ ↦[S j]{fullShare} f : sProp 𝕄) ⊢ bigSep Finset.univ fun j => iprop(∃ f, ℓ ↦[S j]{fullShare} f) :=
    bigSep_mono fun j _ => show (ℓ ↦[S j]{fullShare} f : sProp 𝕄) ⊢ iprop(∃ f, ℓ ↦[S j]{fullShare} f) from by
      iintro H; iexists f; iexact H
  iapply hm
  iexact H

theorem slots_whole {n : ℕ} {ℓ : Loc nD τ sig} (S : Fin (n + 1) → Finset (Idx ℓ)) (t : Idx ℓ → Fin (n + 1)) (h : ∀ j i, i ∈ S j ↔ t i = j) :
    (bigSep Finset.univ fun j => iprop(∃ f, ℓ ↦[S j]{fullShare} f) : sProp 𝕄) ⊢ iprop(∃ f, ℓ ↦{fullShare} f) := by
  have hd : ∀ j ∈ (Finset.univ : Finset (Fin (n + 1))), ∀ k ∈ (Finset.univ : Finset (Fin (n + 1))), j ≠ k → Disjoint (S j) (S k) :=
    fun j _ k _ hne => Finset.disjoint_left.mpr fun i hi hk => hne (((h j i).mp hi).symm.trans ((h k i).mp hk))
  have hu : (Finset.univ : Finset (Fin (n + 1))).biUnion S = Finset.univ := by
    ext i; simp only [Finset.mem_biUnion, Finset.mem_univ, true_and, iff_true]; exact ⟨t i, (h _ i).mpr rfl⟩
  iintro H
  ihave HK := (BI.bigSep_exists_pi Finset.univ (fun (j : Fin (n + 1)) (f : Buf (Elt F) ℓ) => (ℓ ↦[S j]{fullShare} f : sProp 𝕄))) $$ H
  icases HK with ⟨%fs, H⟩
  ihave H := (pointsTo_biUnion_join Finset.univ S fs (fs 0) hd) $$ H
  icases H with ⟨%g, -, H⟩
  iexists g
  rw [hu]
  iexact H

/-- A whole buffer's view reaches the positions themselves. -/
theorem setOn_whole (b : Ref sig .tc) (S : Finset b.ty.shape.Idx) : (View.whole b : View sig .tc _ _ _).setOn S = S := by
  ext i
  exact View.mem_setOn (v := View.whole b) (x := i)

end Slots

theorem send_split (c : Dev nD) : (iprop(∃ f, ((c : Thread nD τ).loc cc0_scratch3) ↦{fullShare} f) : sProp 𝕄) ⊢ bigSep Finset.univ fun j => iprop(∃ f, sendPts (F := F) c j f) := by
  have h := whole_slots (F := F) (ℓ := (c : Thread nD τ).loc cc0_scratch3) (fun j => (slotR j).set) (fun i => (i : S7x129x1024.Idx) 0) mem_slot
  unfold sendPts
  simp only [Memref.view_whole, setOn_whole]
  exact h
theorem send_join (c : Dev nD) : (bigSep Finset.univ fun j => iprop(∃ f, sendPts (F := F) c j f) : sProp 𝕄) ⊢ iprop(∃ f, ((c : Thread nD τ).loc cc0_scratch3) ↦{fullShare} f) := by
  have h := slots_whole (F := F) (ℓ := (c : Thread nD τ).loc cc0_scratch3) (fun j => (slotR j).set) (fun i => (i : S7x129x1024.Idx) 0) mem_slot
  unfold sendPts
  simp only [Memref.view_whole, setOn_whole]
  exact h
theorem recv_split (c : Dev nD) : (iprop(∃ f, ((c : Thread nD τ).loc cc0_scratch4) ↦{fullShare} f) : sProp 𝕄) ⊢ bigSep Finset.univ fun j => iprop(∃ f, recvPts (F := F) c j f) := by
  have h := whole_slots (F := F) (ℓ := (c : Thread nD τ).loc cc0_scratch4) (fun j => (slotR j).set) (fun i => (i : S7x129x1024.Idx) 0) mem_slot
  unfold recvPts
  simp only [Memref.view_whole, setOn_whole]
  exact h
theorem recv_join (c : Dev nD) : (bigSep Finset.univ fun j => iprop(∃ f, recvPts (F := F) c j f) : sProp 𝕄) ⊢ iprop(∃ f, ((c : Thread nD τ).loc cc0_scratch4) ↦{fullShare} f) := by
  have h := slots_whole (F := F) (ℓ := (c : Thread nD τ).loc cc0_scratch4) (fun j => (slotR j).set) (fun i => (i : S7x129x1024.Idx) 0) mem_slot
  unfold recvPts
  simp only [Memref.view_whole, setOn_whole]
  exact h
theorem load_split (c : Dev nD) : (iprop(∃ f, ((c : Thread nD τ).loc cc0_scratch5) ↦{fullShare} f) : sProp 𝕄) ⊢ bigSep Finset.univ fun j => iprop(∃ f, loadPts (F := F) c j f) := by
  have h := whole_slots (F := F) (ℓ := (c : Thread nD τ).loc cc0_scratch5) (fun j => (loadR j).set) (fun i => (i : S8x512x1024.Idx) 0) mem_load
  unfold loadPts
  simp only [Memref.view_whole, setOn_whole]
  exact h
theorem load_join (c : Dev nD) : (bigSep Finset.univ fun j => iprop(∃ f, loadPts (F := F) c j f) : sProp 𝕄) ⊢ iprop(∃ f, ((c : Thread nD τ).loc cc0_scratch5) ↦{fullShare} f) := by
  have h := slots_whole (F := F) (ℓ := (c : Thread nD τ).loc cc0_scratch5) (fun j => (loadR j).set) (fun i => (i : S8x512x1024.Idx) 0) mem_load
  unfold loadPts
  simp only [Memref.view_whole, setOn_whole]
  exact h

variable (m : (ℓ : Loc nD τ sig) → Buf (Elt F) ℓ) (ρ : Dev nD → PrngReg)

/-! ## The proof data -/

/-- The grid's one point. -/
def t₀ : Fin cfg0.N := t0_0
theorem point_eq (t : Fin cfg0.N) : t = t₀ := fin_N0 t

/-- What device `c`'s kernel is given: three arrays fetched whole, the weights where they lie. -/
def given (c : Dev nD) : Ins F := ⟨iblk m c 0 t₀, iblk m c 1 t₀, iblk m c 2 t₀, m ((c : Thread nD τ).loc main_arg3)⟩

/-- The messages of the eight devices. -/
def sent : Dev nD → Fin 7 → Vec F S129x1024 .bf16 := message (given m)

/-- The scratch buffers, each at some contents. -/
def scratch (c : Dev nD) : sProp 𝕄 :=
  iprop((∃ f, (Memref.whole cc0_scratch0).view.loc (c : Thread nD τ) ↦[(Memref.whole cc0_scratch0).view.set]{fullShare} f)
    ∗ (∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f)
    ∗ (bigSep Finset.univ fun j : Fin 8 => iprop(∃ f, loadPts (F := F) c j f))
    ∗ (bigSep Finset.univ fun j => iprop(∃ f, sendPts (F := F) c j f)) ∗ (bigSep Finset.univ fun j => iprop(∃ f, recvPts (F := F) c j f)))

/-- The weights of device `c`, where they lie. -/
def weights (c : Dev nD) : sProp 𝕄 :=
  (Memref.whole main_arg3).view.loc (c : Thread nD τ) ↦[(Memref.whole main_arg3).view.set]{fullShare} (m ((c : Thread nD τ).loc main_arg3))

/-- What the kernel starts from beside its windows and its scratch. -/
def start (c : Dev nD) : sProp 𝕄 := iprop(ready (sent m) c ∗ credits c ∗ levAts L lv ∗ weights m c)

/-- Before the body: that and the scratch. -/
def Φ₀ (c : Dev nD) : sProp 𝕄 := iprop(start m c ∗ scratch c)
/-- After it: every semaphore at zero, the weights, the scratch. -/
def Φ₁ (c : Dev nD) : sProp 𝕄 :=
  iprop((semVal (barCell c) 0 ∗ (bigSep Finset.univ fun j => semVal (sendCell c j) 0)
    ∗ (bigSep Finset.univ fun j => semVal (recvCell c j) 0) ∗ (bigSep Finset.univ fun j => semVal (loadCell c j) 0)) ∗ weights m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => iblk m c 0 t₀
    | ⟨1, _⟩ => iblk m c 1 t₀
    | ⟨2, _⟩ => iblk m c 2 t₀
    | ⟨3, _⟩ => result (given m) c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem windows (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Buffer `b` of device `c` at contents `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem holds_eq (c : Dev nD) (b : Ref sig .tc) (X : b.ty.Contents (Elt F)) :
    (holds c b X : sProp 𝕄) ⊢ (Memref.whole b).view.loc (c : Thread nD τ) ↦[(Memref.whole b).view.set]{fullShare} X := by
  rw [show (Memref.whole b).view.set = Finset.univ from View.set_whole b]
  iintro ⟨%f, %h, H⟩
  subst h
  iexact H

omit [FloatOps F] in
theorem eq_holds (c : Dev nD) (b : Ref sig .tc) (X : b.ty.Contents (Elt F)) :
    ((Memref.whole b).view.loc (c : Thread nD τ) ↦[(Memref.whole b).view.set]{fullShare} X : sProp 𝕄) ⊢ holds c b X := by
  rw [show (Memref.whole b).view.set = Finset.univ from View.set_whole b]
  iintro H
  iexists X
  isplitr; · ipureintro; rfl
  iexact H

/-- What the body is given and what it gives back, in the pipeline's terms. -/
def pre (c : Dev nD) : sProp 𝕄 :=
  iprop(Φ₀ m c ∗ (dats m 0 c).owesAt () t₀.castSucc
    ∗ (∃ d, holds c cc0_stg0_0 ((dats m 0 c).before (0 : Fin 4) t₀ d))
    ∗ (∃ d, holds c cc0_stg1_0 ((dats m 0 c).before (1 : Fin 4) t₀ d))
    ∗ (∃ d, holds c cc0_stg2_0 ((dats m 0 c).before (2 : Fin 4) t₀ d))
    ∗ (∃ d, holds c cc0_stg3_0 ((dats m 0 c).before (3 : Fin 4) t₀ d)))

def post (c : Dev nD) : sProp 𝕄 :=
  iprop(Φ₁ m c ∗ (dats m 0 c).owesAt () t₀.succ ∗ holds c cc0_stg0_0 (iblk m c 0 t₀) ∗ holds c cc0_stg1_0 (iblk m c 1 t₀)
    ∗ holds c cc0_stg2_0 (iblk m c 2 t₀) ∗ holds c cc0_stg3_0 (result (given m) c))

theorem before_0 (c : Dev nD) (d) : (dats m 0 c).before (0 : Fin 4) t₀ d = iblk m c 0 t₀ := by
  unfold Dat.before; rw [if_pos (fetch0_0 t₀)]; rfl
theorem before_1 (c : Dev nD) (d) : (dats m 0 c).before (1 : Fin 4) t₀ d = iblk m c 1 t₀ := by
  unfold Dat.before; rw [if_pos (fetch0_1 t₀)]; rfl
theorem before_2 (c : Dev nD) (d) : (dats m 0 c).before (2 : Fin 4) t₀ d = iblk m c 2 t₀ := by
  unfold Dat.before; rw [if_pos (fetch0_2 t₀)]; rfl

theorem post_intro (c : Dev nD) :
    finished c (given m c).x (given m c).rw (given m c).idx (given m c).w (result (given m) c) ⊢ post m c := by
  unfold finished post Φ₁ scratch weights Dat.owesAt Pipeline.owesWithin
  iintro ⟨⟨%W, HO⟩, HB, HS, HV, HL, H0, H1, H2, Hw, H3, Ha, Hb, Hc, He, Hs, Hr⟩
  isplitl [HB HS HV HL Hw Ha Hb Hc He Hs Hr]
  · isplitl [HB HS HV HL]
    · isplitl [HB]; · iexact HB
      isplitl [HS]; · iexact HS
      isplitl [HV]; · iexact HV
      iexact HL
    isplitl [Hw]; · iexact Hw
    isplitl [Ha]; · iexact Ha
    isplitl [Hb]; · iexact Hb
    isplitl [Hc]; · iexact Hc
    isplitl [He]; · iexact He
    isplitl [Hs]; · iexact Hs
    iexact Hr
  isplitl [HO]
  · iexists W
    isplitr
    · ipureintro
      exact fun _ _ => Or.inl trivial
    iexact HO
  isplitl [H0]; · iapply (eq_holds c cc0_stg0_0 _); iexact H0
  isplitl [H1]; · iapply (eq_holds c cc0_stg1_0 _); iexact H1
  isplitl [H2]; · iapply (eq_holds c cc0_stg2_0 _); iexact H2
  iapply (eq_holds c cc0_stg3_0 _); iexact H3

set_option maxHeartbeats 1000000 in
theorem body_at (c : Dev nD) : pre m c ⊢ wp frame (wpE (defs₀ (F := F)) Variants.none (c : Thread nD τ) none) Set.univ
    (cc0_body (F := F) (Memref.whole cc0_stg0_0) (Memref.isWhole_whole _) (Memref.whole cc0_stg1_0) (Memref.isWhole_whole _)
        (Memref.whole cc0_stg2_0) (Memref.isWhole_whole _) (Memref.whole main_arg3) (Memref.isWhole_whole _)
        (Memref.whole cc0_stg3_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _) cc0_scratch6 cc0_scratch7 cc0_scratch8) (fun _ => post m c) := by
  unfold pre Φ₀ start ready scratch weights Dat.owesAt Pipeline.owesWithin
  iintro ⟨⟨⟨⟨⟨%K, HI, HM, HP, HT⟩, HL⟩, HC, Hlev, Hw⟩, Ha, Hb, Hc, He, Hs, Hr⟩, ⟨%W, %hW, HO⟩, ⟨%d0, H0⟩, ⟨%d1, H1⟩, ⟨%d2, H2⟩, %d3, H3⟩
  rw [before_0, before_1, before_2]
  iapply (body_run (sent m) K c (given m c).x (given m c).rw (given m c).idx (given m c).w W (fun _ => post m c) (fun _ => rfl))
  isplitl [HI HM HP HT HC Hlev]
  · isplitl [HI]; · iexact HI
    isplitl [HM]; · iexact HM
    isplitl [HP]; · iexact HP
    isplitl [HT]; · iexact HT
    isplitl [HC]; · iexact HC
    iexact Hlev
  isplitl [HO]; · iexact HO
  isplitl [HL]; · iexact HL
  isplitl [H0]; · iapply (holds_eq c cc0_stg0_0 _); iexact H0
  isplitl [H1]; · iapply (holds_eq c cc0_stg1_0 _); iexact H1
  isplitl [H2]; · iapply (holds_eq c cc0_stg2_0 _); iexact H2
  isplitl [Hw]; · iexact Hw
  isplitl [H3]; · iexists _; iapply (holds_eq c cc0_stg3_0 _); iexact H3
  isplitl [Ha]; · iexact Ha
  isplitl [Hb]; · iexact Hb
  isplitl [Hc]; · iexact Hc
  isplitl [He]; · iexact He
  isplitl [Hs]; · iexact Hs
  isplitl [Hr]; · iexact Hr
  iintro H
  iapply (post_intro m c)
  iexact H

/-- The pipeline library's body obligation. -/
theorem body_obligation (c : Dev nD) : BodyObligation (dats (F := F) m 0 c) (defs₀ (F := F)) Variants.none () Set.univ := fun t => by
  rw [point_eq t]
  rw [windows, windows]
  simp only [owns_whole_eq]
  exact body_at m c

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (sent m) c)
      ⊢ |={Set.univ}=> iprop(start m c ∗ emp) := by
  rw [Pipeline.unscopedRestP_none, unscopedRest0_eq]
  iintro ⟨Hw, Hlev, Hcr, -, HG⟩
  ihave Hc := (credits_intro (F := F) c) $$ Hcr
  imodintro
  unfold start weights
  rw [show (Memref.whole main_arg3).view.set = Finset.univ from View.set_whole main_arg3]
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  rw [show (Memref.whole cc0_scratch0).view.set = Finset.univ from View.set_whole cc0_scratch0,
    show (Memref.whole cc0_scratch1).view.set = Finset.univ from View.set_whole cc0_scratch1,
    show (Memref.whole cc0_scratch2).view.set = Finset.univ from View.set_whole cc0_scratch2]
  iintro ⟨Hs, -, H0, H1, H2, H3, H4, H5⟩
  isplitl [Hs]; · iexact Hs
  isplitl [H0]; · iexact H0
  isplitl [H1]; · iexact H1
  isplitl [H2]; · iexact H2
  isplitl [H5]; · iapply (load_split (F := F) c); iexact H5
  isplitl [H3]; · iapply (send_split (F := F) c); iexact H3
  iapply (recv_split (F := F) c); iexact H4

theorem phi1_exit (c : Dev nD) :
    (dats m 0 c).Φ (Fin.last cfg0.N) ⊢ iprop((unscopedSems0 c ∗ weights m c) ∗ Pipeline.ownSems0 osem c ∗ Pipeline.scopedRest cfg0.spec c) := by
  rw [show (dats m 0 c).Φ (Fin.last cfg0.N) = Φ₁ m c from rfl, scopedRest0_eq, ownSems_eq, unscopedSems_eq]
  unfold Φ₁ scratch
  rw [show (Memref.whole cc0_scratch0).view.set = Finset.univ from View.set_whole cc0_scratch0,
    show (Memref.whole cc0_scratch1).view.set = Finset.univ from View.set_whole cc0_scratch1,
    show (Memref.whole cc0_scratch2).view.set = Finset.univ from View.set_whole cc0_scratch2]
  iintro ⟨⟨HB, HS, HV, HL⟩, Hw, H0, H1, H2, H5, H3, H4⟩
  isplitl [HB Hw]
  · isplitl [HB] <;> iassumption
  isplitl [HS HV HL]
  · isplitl [HS]; · iexact HS
    isplitl [HV] <;> iassumption
  isplitl [H0]; · iexact H0
  isplitl [H1]; · iexact H1
  isplitl [H2]; · iexact H2
  isplitl [H3]; · iapply (send_join (F := F) c); iexact H3
  isplitl [H4]; · iapply (recv_join (F := F) c); iexact H4
  iapply (load_join (F := F) c); iexact H5

theorem stage_waits (c : Dev nD) : (levAts L lv : sProp 𝕄) ⊢ Pipeline.cellsWaits cfgs (dats m) () 0 c :=
  Pipeline.cellsWaits_intro cfgs (dats m) () 0 c fun w s t => by
    have hq : ¬ IsRecv ((cfg0.win w).sem s) := by fin_cases w <;> fin_cases s <;> decide
    rcases t with ⟨_ | _, ht⟩
    · exact mayWait_dma c _ hq 7
    · exact MayOwe.of_cut (L := L) (lev := lv) 0 (fun p hp => by rw [Finset.mem_singleton.mp hp, L_tc]; exact Finset.mem_singleton_self _)
        (fun g u hg => absurd hg (lt_irrefl _)) (fun p hp => by rw [Finset.mem_singleton.mp hp, lv_dma c _ hq])
        (fun g u hg => absurd hg (lt_irrefl _))

/-! ## The run -/

/-- Window `w`'s array at the end. -/
def finalA (c : Dev nD) (w : Fin cfg0.W) : Buf (Elt F) ((cfg0.win w).arr.view.loc (c : Thread nD τ)) := (dats m 0 c).arrAt w cfg0.N

/-- Every device's windows' arrays at the end, and its weights as launched. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg3) = m ((c : Thread nD τ).loc main_arg3)

/-- The run of the eight devices. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := stage_waits m)
    (G := dealt (sent m)) (G' := ready (sent m)) (u₀ := u₀)
    (hu₀ := by
      unfold u₀
      iintro Hu
      ihave H := (ownU_pair _ _) $$ Hu
      icases H with ⟨HP, HX⟩
      ihave HX := (Entails.of_eq (show (BI.own (embR (initOf cells duties, 1)) : sProp 𝕄) = BI.own (ER (initOf cells duties)) from rfl)) $$ HX
      imod (fund_exchange (sent m)) $$ HX with HG
      imodintro
      isplitl [HP] <;> iassumption)
    (hglob := alloc_all (sent m))
    (hA := fun _ _ => rfl) (hpf := fun _ k => k.elim0)
    (X := start m) (Y := fun c => iprop(unscopedSems0 c ∗ weights m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg3) = m ((c : Thread nD τ).loc main_arg3))
    (hY := fun c s' => by
      unfold weights
      rw [show (Memref.whole main_arg3).view.set = Finset.univ from View.set_whole main_arg3]
      iintro ⟨⟨Hu, Hw⟩, -, HSI⟩
      ihave %hw := (SI_pointsTo_agree) $$ [HSI Hw]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro
        exact ⟨hs, funext fun i => hw i (Finset.mem_univ i)⟩
      iexact HSI)
    (hQ := fun _ h hs => ⟨fun c => ⟨fun w => (h c).1 w, (h c).2.2.2⟩, sem_eq_zero hs fun c => (h c).2.2.1⟩)

/-! ## The run in terms of the arguments -/

/-- The four arguments of device `c` as launched. -/
def args (c : Dev nD) : Ins F :=
  ⟨m ((c : Thread nD τ).loc main_arg0), m ((c : Thread nD τ).loc main_arg1), m ((c : Thread nD τ).loc main_arg2), m ((c : Thread nD τ).loc main_arg3)⟩

omit [FloatOps F] in
theorem block_0 (c : Dev nD) : iblk m c 0 t₀ = m ((c : Thread nD τ).loc main_arg0) := by
  funext i; unfold iblk; blk_simp
  refine congrArg (m ((c : Thread nD τ).loc main_arg0)) (funext fun a => Fin.ext ?_)
  fin_cases a <;> blk_simp <;> exact Nat.zero_add _
omit [FloatOps F] in
theorem block_1 (c : Dev nD) : iblk m c 1 t₀ = m ((c : Thread nD τ).loc main_arg1) := by
  funext i; unfold iblk; blk_simp
  refine congrArg (m ((c : Thread nD τ).loc main_arg1)) (funext fun a => Fin.ext ?_)
  fin_cases a <;> blk_simp <;> exact Nat.zero_add _
omit [FloatOps F] in
theorem block_2 (c : Dev nD) : iblk m c 2 t₀ = m ((c : Thread nD τ).loc main_arg2) := by
  funext i; unfold iblk; blk_simp
  refine congrArg (m ((c : Thread nD τ).loc main_arg2)) (funext fun a => Fin.ext ?_)
  fin_cases a <;> blk_simp <;> exact Nat.zero_add _

/-- The windows are the whole arrays. -/
theorem given_eq : given m = args m := by
  funext c; unfold given args; rw [block_0, block_1, block_2]

theorem final_result (c : Dev nD) : finalA m c 3 = result (args m) c := by
  rw [← given_eq]
  unfold finalA
  refine (dats m 0 c).arrAt_eq_of_after_last 3 t₀ (by decide +kernel) _ fun j => ?_
  blk_simp
  rfl

/-- Each device's result, its arguments unchanged, every semaphore at zero. -/
theorem run_args : θ_run defs (onTc (τ := τ) (main (F := F))) ⟨m, fun _ => 0, ρ⟩ (fun r =>
    (∀ c : Dev nD, r.2.mem ((c : Thread nD τ).loc main_v1) = result (args m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c =>
    ⟨((h.1 c).1 3).trans (final_result m c), ((h.1 c).1 0).trans ((dats m 0 c).arrAt_in 0 rfl _),
      ((h.1 c).1 1).trans ((dats m 0 c).arrAt_in 1 rfl _), ((h.1 c).1 2).trans ((dats m 0 c).arrAt_in 2 rfl _), (h.1 c).2⟩, h.2⟩) (run_main m ρ)

end Cert.KernelIdeal.Moe

end
-- ==== Proof.Value.Table.lean ====
/-
# Slot tables over the extended reals

A chunk has 256 rows, some of them routed to a device; the routed rows take the slots 0, 1, 2, … in order. The table of the
chunk is 1 where a row meets its slot and 0 elsewhere. Sums over its rows gather, sums over its slots scatter: what the
two do, one after the other, to a function of the rows.
-/
module

public import Mathlib.Data.EReal.Basic
public import Mathlib.Data.EReal.Operations
public import Mathlib.Algebra.BigOperators.Group.Finset.Basic
public import Mathlib.Algebra.BigOperators.Group.Finset.Piecewise
public import Mathlib.Algebra.BigOperators.Ring.Finset

@[expose] public section

noncomputable section

namespace Cert.Moe

open scoped BigOperators

variable (act : Fin 256 → Prop) [DecidablePred act]

/-- The slot of row `a`: how many routed rows stand before it. -/
def rank (a : Fin 256) : ℕ := (Finset.univ.filter fun b : Fin 256 => b.val < a.val ∧ act b).card

/-- How many rows are routed. -/
def routed : ℕ := (Finset.univ.filter fun b : Fin 256 => act b).card

/-- A routed row has a smaller slot than every later row. -/
theorem rank_lt_rank {a b : Fin 256} (h : a.val < b.val) (ha : act a) : rank act a < rank act b := by
  refine Finset.card_lt_card ⟨fun x hx => ?_, fun hs => ?_⟩
  · obtain ⟨h1, h2⟩ := (Finset.mem_filter.mp hx).2
    exact Finset.mem_filter.mpr ⟨Finset.mem_univ _, by omega, h2⟩
  · exact absurd (Finset.mem_filter.mp (hs (Finset.mem_filter.mpr ⟨Finset.mem_univ a, h, ha⟩))).2.1 (lt_irrefl _)

/-- Two routed rows do not share a slot. -/
theorem rank_inj {a b : Fin 256} (ha : act a) (hb : act b) (h : rank act a = rank act b) : a = b := by
  rcases lt_trichotomy a.val b.val with h' | h' | h'
  · exact absurd h (rank_lt_rank act h' ha).ne
  · exact Fin.ext h'
  · exact absurd h (rank_lt_rank act h' hb).ne'

/-- A routed row's slot is smaller than the number of routed rows. -/
theorem rank_lt {a : Fin 256} (ha : act a) : rank act a < routed act := by
  refine Finset.card_lt_card ⟨fun x hx => Finset.mem_filter.mpr ⟨Finset.mem_univ _, (Finset.mem_filter.mp hx).2.2⟩, fun hs => ?_⟩
  exact absurd (Finset.mem_filter.mp (hs (Finset.mem_filter.mpr ⟨Finset.mem_univ a, ha⟩))).2.1 (lt_irrefl _)

/-- The entry of the table at row `a` and slot `s`. -/
def entry (a : Fin 256) (s : Fin 128) : EReal := if act a ∧ rank act a = s.val then 1 else 0

/-- Slot `s` belongs to no row. -/
def Empty (s : Fin 128) : Prop := ∀ b, ¬ (act b ∧ rank act b = s.val)

/-- Gathered into the slot of a routed row: the row's value. -/
theorem gather_row (f : Fin 256 → EReal) {a : Fin 256} {s : Fin 128} (ha : act a) (hs : rank act a = s.val) :
    ∑ b, entry act b s * f b = f a := by
  rw [Finset.sum_eq_single a]
  · rw [entry, if_pos ⟨ha, hs⟩, one_mul]
  · intro b _ hb
    rw [entry, if_neg (fun h => hb (rank_inj act h.1 ha (h.2.trans hs.symm))), zero_mul]
  · exact fun h => absurd (Finset.mem_univ a) h

/-- Gathered into a slot of no row: zero. -/
theorem gather_empty (f : Fin 256 → EReal) {s : Fin 128} (hs : Empty act s) : ∑ b, entry act b s * f b = 0 :=
  Finset.sum_eq_zero fun b _ => by rw [entry, if_neg (hs b), zero_mul]

/-- What the slots hold is scattered back: each routed row receives what its slot holds. -/
theorem scatter (hcap : routed act ≤ 128) (G : Fin 256 → EReal) (y : Fin 128 → EReal)
    (hy : ∀ a s, act a → rank act a = s.val → y s = G a) (a : Fin 256) :
    ∑ s, entry act a s * y s = if act a then G a else 0 := by
  by_cases ha : act a
  · rw [if_pos ha, Finset.sum_eq_single ⟨rank act a, (rank_lt act ha).trans_le hcap⟩]
    · rw [entry, if_pos ⟨ha, rfl⟩, one_mul, hy a _ ha rfl]
    · intro s _ hs
      rw [entry, if_neg (fun h => hs (Fin.ext h.2.symm)), zero_mul]
    · exact fun h => absurd (Finset.mem_univ _) h
  · rw [if_neg ha]
    exact Finset.sum_eq_zero fun s _ => by rw [entry, if_neg (fun h => ha h.1), zero_mul]

/-- The same where a row finds its slot by the row number the slot carries. A slot of no row carries the number 0 and
    holds zero, so that it adds nothing to row 0. -/
theorem scatter_numbers (hcap : routed act ≤ 128) (G : Fin 256 → EReal) (y : Fin 128 → EReal) (key : Fin 128 → ℕ)
    (hy : ∀ a s, act a → rank act a = s.val → y s = G a) (hk : ∀ a s, act a → rank act a = s.val → key s = a.val)
    (hy0 : ∀ s, Empty act s → y s = 0) (a : Fin 256) :
    ∑ s, (if a.val = key s then (1 : EReal) else 0) * y s = if act a then G a else 0 := by
  rw [← scatter act hcap G y hy a]
  refine Finset.sum_congr rfl fun s _ => ?_
  by_cases hs : Empty act s
  · rw [hy0 s hs, mul_zero, mul_zero]
  · obtain ⟨b, hb⟩ := not_forall.mp hs
    obtain ⟨hb1, hb2⟩ := not_not.mp hb
    rw [hk b s hb1 hb2, entry]
    refine congrArg (· * y s) (if_congr ⟨fun h => ?_, fun h => ?_⟩ rfl rfl)
    · rw [Fin.ext h]; exact ⟨hb1, hb2⟩
    · exact congrArg Fin.val (rank_inj act h.1 hb1 (h.2.trans hb2.symm))

end Cert.Moe
-- ==== Proof.Value.Slots.lean ====
/-
# The kernel's slot table

The table that the kernel computes for a chunk, read at an entry: it is the table of Table.lean, a row being routed to the
device that owns one of the row's two experts. An expert's owner is the expert's number divided by eight, which the
kernel computes by a division that rounds down.
-/
module

public import proofs.«01_k».proof.Proof.KernelIdeal.Values
public import proofs.«01_k».proof.Proof.Value.Table
public import Idealize.ShloMosaic.PureOps.Ideal
public import Idealize.ShloMosaic.Lib.Pointwise

@[expose] public section

set_option maxRecDepth 16384

noncomputable section

namespace Cert.KernelIdeal.Moe

open Cert.KernelIdeal Cert.KernelIdeal.Gen Cert.Moe
open Idealize.ShloMosaic

/-- The comparison of an expert's owner with `n`, as the kernel writes it. -/
def ownerBit (w n : BitVec 32) : BitVec 1 :=
  IntOp.cmpi CmpIPredicate.eq
    (Scalar.select
      (IntOp.andi
        (IntOp.cmpi CmpIPredicate.ne
          (IntOp.subi (BitVec.setWidth 32 (IntOp.cmpi CmpIPredicate.sgt w 0#32)) (BitVec.setWidth 32 (IntOp.cmpi CmpIPredicate.slt w 0#32)))
          (Scalar.subi (Scalar.extui (Scalar.cmpi CmpIPredicate.sgt 8#32 0#32)) (Scalar.extui (Scalar.cmpi CmpIPredicate.slt 8#32 0#32))))
        (IntOp.cmpi CmpIPredicate.ne (IntOp.remsi ArithUnit.vector w 8#32) 0#32))
      (IntOp.subi (IntOp.divsi ArithUnit.vector w 8#32) 1#32)
      (IntOp.divsi ArithUnit.vector w 8#32))
    n

/-- The comparison, for each of the 64 experts and each of the eight devices. -/
theorem ownerBit_fin : ∀ (k : Fin 64) (c : Fin 8), ownerBit (BitVec.ofNat 32 k.val) (BitVec.ofNat 32 c.val) = if k.val / 8 = c.val then 1#1 else 0#1 := by
  decide +kernel

/-- For an expert's number below 64 the comparison says whether device `c` owns the expert. -/
theorem ownerBit_eq (w : BitVec 32) (hw : w.toNat < 64) (c : Fin 8) :
    ownerBit w (BitVec.ofNat 32 c.val) = if w.toNat / 8 = c.val then 1#1 else 0#1 := by
  have h := ownerBit_fin ⟨w.toNat, hw⟩ c
  rwa [show BitVec.ofNat 32 (⟨w.toNat, hw⟩ : Fin 64).val = w from BitVec.ofNat_toNat _ _ |>.trans (BitVec.setWidth_eq w)] at h

/-- A bit as a word, read as a number. -/
theorem bit_value (p : Prop) [Decidable p] :
    FloatOps.sitofp (F := Ideal) FTy.f32 (BitVec.setWidth 32 (if p then 1#1 else 0#1)) = if p then (1 : EReal) else 0 := by
  by_cases h : p
  · rw [if_pos h, if_pos h]
    show (((BitVec.setWidth 32 1#1).toInt : ℝ) : EReal) = 1
    rw [show (BitVec.setWidth 32 1#1).toInt = 1 from by decide]; norm_num
  · rw [if_neg h, if_neg h]
    show (((BitVec.setWidth 32 0#1).toInt : ℝ) : EReal) = 0
    rw [show (BitVec.setWidth 32 0#1).toInt = 0 from by decide]; norm_num

/-- The conjunction of two bits. -/
theorem bit_and (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The disjunction of two bits. -/
theorem bit_or (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

/-- Words of small numbers compare as the numbers do. -/
theorem bit_eq (m n : ℕ) (hm : m < 2 ^ 31) (hn : n < 2 ^ 31) :
    IntOp.cmpi CmpIPredicate.eq (BitVec.ofNat 32 m) (BitVec.ofNat 32 n) = if m = n then 1#1 else 0#1 := by
  have e : (BitVec.ofNat 32 m = BitVec.ofNat 32 n) ↔ m = n := by
    rw [← BitVec.toNat_inj, BitVec.toNat_ofNat, BitVec.toNat_ofNat, Nat.mod_eq_of_lt (by omega), Nat.mod_eq_of_lt (by omega)]
  by_cases h : m = n
  · simp [IntOp.cmpi, h]
  · rw [if_neg h]
    show BitVec.ofBool (BitVec.ofNat 32 m == BitVec.ofNat 32 n) = 0#1
    rw [beq_eq_false_iff_ne.mpr (fun h' => h (e.mp h'))]; rfl

/-- Words of numbers below 2^31, compared signed, compare as the numbers. -/
theorem bit_slt (m n : ℕ) (hm : m < 2 ^ 31) (hn : n < 2 ^ 31) :
    IntOp.cmpi CmpIPredicate.slt (BitVec.ofNat 32 m) (BitVec.ofNat 32 n) = if m < n then 1#1 else 0#1 := by
  have e : (BitVec.ofNat 32 m).slt (BitVec.ofNat 32 n) = decide (m < n) := by
    rw [BitVec.slt_eq_decide, BitVec.toInt_ofNat', BitVec.toInt_ofNat']
    refine decide_eq_decide.mpr ?_
    rw [Int.bmod_eq_of_le (by omega) (by omega), Int.bmod_eq_of_le (by omega) (by omega)]
    omega
  by_cases h : m < n
  · simp [IntOp.cmpi, h, e]
  · simp [IntOp.cmpi, h, e]

/-- A number's word, converted from the number as a float. -/
theorem fptosi_nat (k : ℕ) (hk : k < 2 ^ 31) : FloatOps.fptosi (F := Ideal) (φ := FTy.f32) 32 ((k : ℝ) : EReal) = BitVec.ofNat 32 k := by
  show Ideal.fptosi 32 _ = _
  rw [Ideal.fptosi, Ideal.toIntClamped_coe, if_pos (Nat.cast_nonneg k), Int.floor_natCast,
    show min (((2 ^ (32 - 1) : ℕ) : ℤ) - 1) (k : ℤ) = k from by rw [min_eq_right]; norm_num; omega,
    show max (-((2 ^ (32 - 1) : ℕ) : ℤ)) (k : ℤ) = k from by rw [max_eq_right]; norm_num]
  exact BitVec.ofInt_natCast 32 k

/-- The strict lower triangle. -/
theorem tril_at (a b : Fin 256) : (k0_pay5 (F := Ideal)) (ix2 a b) = if b.val < a.val then 1 else 0 := by
  pointwise [k0_pay5]
  have ha := a.isLt
  have hb := b.isLt
  rw [bit_slt _ _ (by omega) (by omega), bit_value]

/-- A row is routed to device `c` when the device owns one of its two experts. -/
abbrev Routed (e0 e1 : BitVec 32) (c : ℕ) : Prop := e0.toNat / 8 = c ∨ e1.toNat / 8 = c

/-- The kernel's table at an entry. -/
theorem slots_at (c : Fin 8) (i0 i1 : Vec Ideal S256x1 .i32) (h0 : ∀ a : Fin 256, (i0 (ix2 a 0) : BitVec 32).toNat < 64)
    (h1 : ∀ a : Fin 256, (i1 (ix2 a 0) : BitVec 32).toNat < 64) (a : Fin 256) (s : Fin 128) :
    slots (BitVec.ofNat 32 c.val) i0 i1 (ix2 a s) = entry (fun b : Fin 256 => Routed (i0 (ix2 b 0)) (i1 (ix2 b 0)) c.val) a s := by
  have hbit : ∀ b : Fin 256, IntOp.ori (ownerBit (i0 (ix2 b 0)) (BitVec.ofNat 32 c.val)) (ownerBit (i1 (ix2 b 0)) (BitVec.ofNat 32 c.val))
      = if Routed (i0 (ix2 b 0)) (i1 (ix2 b 0)) c.val then 1#1 else 0#1 := fun b => by
    rw [ownerBit_eq _ (h0 b), ownerBit_eq _ (h1 b), bit_or]
  have hsum : (∑ b : Fin 256, (k0_pay5 (F := Ideal)) (ix2 a b) * FloatOps.sitofp (F := Ideal) FTy.f32
      (BitVec.setWidth 32 (IntOp.ori (ownerBit (i0 (ix2 b 0)) (BitVec.ofNat 32 c.val)) (ownerBit (i1 (ix2 b 0)) (BitVec.ofNat 32 c.val)))) : EReal)
      = ((rank (fun b : Fin 256 => Routed (i0 (ix2 b 0)) (i1 (ix2 b 0)) c.val) a : ℝ) : EReal) := by
    rw [rank, Finset.card_filter]
    have hcast : (((∑ b : Fin 256, if b.val < a.val ∧ Routed (i0 (ix2 b 0)) (i1 (ix2 b 0)) c.val then 1 else 0 : ℕ) : ℝ) : EReal)
        = ∑ b : Fin 256, if b.val < a.val ∧ Routed (i0 (ix2 b 0)) (i1 (ix2 b 0)) c.val then (1 : EReal) else 0 := by
      rw [EReal.coe_natCast, Nat.cast_sum]
      exact Finset.sum_congr rfl fun b _ => by split <;> simp
    refine Eq.trans ?_ hcast.symm
    refine Finset.sum_congr rfl fun b _ => ?_
    rw [tril_at, hbit, bit_value]
    by_cases h : b.val < a.val <;> by_cases h' : Routed (i0 (ix2 b 0)) (i1 (ix2 b 0)) c.val <;> simp [h, h']
  pointwise [slots, k0_pay11, k0_pay7, k0_pay8, k0_pay9, k0_pay10, k0_pay6]
  refine (congrArg (fun z => FloatOps.sitofp (F := Ideal) FTy.f32 (BitVec.setWidth 32 (IntOp.andi (IntOp.cmpi CmpIPredicate.eq
    (FloatOps.fptosi (F := Ideal) (φ := FTy.f32) 32 z) (BitVec.ofNat 32 s.val))
      (IntOp.ori (ownerBit (i0 (ix2 a 0)) (BitVec.ofNat 32 c.val)) (ownerBit (i1 (ix2 a 0)) (BitVec.ofNat 32 c.val)))))) hsum).trans ?_
  have hr : rank (fun b : Fin 256 => Routed (i0 (ix2 b 0)) (i1 (ix2 b 0)) c.val) a ≤ 256 :=
    (Finset.card_le_univ _).trans (by simp)
  have hs := s.isLt
  rw [fptosi_nat _ (by omega), bit_eq _ _ (by omega) (by omega), hbit, bit_and, bit_value, entry]
  exact if_congr (and_comm) rfl rfl

end Cert.KernelIdeal.Moe
-- ==== Proof.Value.Weights.lean ====
/-
# What one device reads and how it weighs a row

The loads of the kernel read at an entry, and the gate weights that a device computes for its eight experts. The weight of a
token's first expert is the logistic function of the difference of the two experts' scores; the second's is what remains to 1.
-/
module

public import proofs.«01_k».proof.Proof.Value.Slots

@[expose] public section

set_option maxRecDepth 16384

noncomputable section

namespace Cert.KernelIdeal.Moe

open Cert.KernelIdeal Cert.KernelIdeal.Gen Cert.Moe
open Idealize.ShloMosaic

/-! ## Loads -/

/-- A load of the whole array is the array. -/
theorem xAll_eq (x : Vec Ideal S2048x512 .f32) : xAll x = x :=
  funext fun i => congrArg x (funext fun a => Fin.ext (by fin_cases a <;> exact (Nat.zero_add _).trans (Nat.one_mul _)))
/-- The same of the router. -/
theorem rwAll_eq (rw : Vec Ideal S512x64 .f32) : rwAll rw = rw :=
  funext fun i => congrArg rw (funext fun a => Fin.ext (by fin_cases a <;> exact (Nat.zero_add _).trans (Nat.one_mul _)))

/-- The two columns of the experts' numbers. -/
theorem col0_at (idx : Vec Ideal S2048x2 .i32) (R : Fin 2048) : col0 idx (ix2 R 0) = idx (ix2 R 0) :=
  congrArg idx (funext fun a => Fin.ext (by fin_cases a <;> exact (Nat.zero_add _).trans (Nat.one_mul _)))
/-- The second column of the experts' numbers. -/
theorem col1_at (idx : Vec Ideal S2048x2 .i32) (R : Fin 2048) : col1 idx (ix2 R 0) = idx (ix2 R 1) :=
  congrArg idx (funext fun a => Fin.ext (by fin_cases a <;> first | exact (Nat.zero_add _).trans (Nat.one_mul _) | rfl))

/-- Row `a` of chunk `r` of device `c`, among all the rows. -/
def row (c r : Fin 8) (a : Fin 256) : Fin 2048 :=
  ⟨256 * ((c.val + r.val) % 8) + a.val, by have := a.isLt; have := Nat.mod_lt (c.val + r.val) (show 0 < 8 by decide); omega⟩

/-- The first experts of a chunk's rows. -/
theorem idx0_at (c : Dev nD) (r : Fin 8) (idx : Vec Ideal S2048x2 .i32) (a : Fin 256) : idx0 c r idx (ix2 a 0) = idx (ix2 (row c r a) 0) := by
  refine congrArg idx (funext fun k => Fin.ext ?_)
  have h := off1_eq c r
  fin_cases k
  · exact congrArg₂ (· + ·) (congrFun h 0) (Nat.one_mul _)
  · exact congrArg₂ (· + ·) (congrFun h 1) (Nat.one_mul _)

/-- The second experts of a chunk's rows. -/
theorem idx1_at (c : Dev nD) (r : Fin 8) (idx : Vec Ideal S2048x2 .i32) (a : Fin 256) : idx1 c r idx (ix2 a 0) = idx (ix2 (row c r a) 1) := by
  refine congrArg idx (funext fun k => Fin.ext ?_)
  have h := off2_eq c r
  fin_cases k
  · exact congrArg₂ (· + ·) (congrFun h 0) (Nat.one_mul _)
  · exact congrArg₂ (· + ·) (congrFun h 1) (Nat.one_mul _)

/-- The tokens of a chunk. -/
theorem xRows_at (c : Dev nD) (r : Fin 8) (x : Vec Ideal S2048x512 .f32) (a : Fin 256) (k : Fin 512) :
    xRows c r x (ix2 a k) = x (ix2 (row c r a) k) := by
  refine congrArg x (funext fun q => Fin.ext ?_)
  have h := off4_eq c r
  fin_cases q
  · exact congrArg₂ (· + ·) (congrFun h 0) (Nat.one_mul _)
  · exact (congrArg₂ (· + ·) (congrFun h 1) (Nat.one_mul _)).trans (Nat.zero_add _)

/-- The weights of a chunk's rows. -/
theorem coefRows_at (c : Dev nD) (r : Fin 8) (v : FVec Ideal S2048x8 .f32) (a : Fin 256) (k : Fin 8) :
    coefRows c r v (ix2 a k) = v (ix2 (row c r a) k) := by
  have h := off3_eq c r
  have e : ((Rect.unit (s := S2048x8) (k0_off3 c (BitVec.ofNat 32 r.val)) S256x8.size (k0_off3_inb c r)).toLoadRect).idx (ix2 a k) = ix2 (row c r a) k := by
    refine funext fun q => Fin.ext ?_
    fin_cases q
    · exact congrArg₂ (· + ·) (congrFun h 0) (Nat.one_mul _)
    · exact (congrArg₂ (· + ·) (congrFun h 1) (Nat.one_mul _)).trans (Nat.zero_add _)
  have e' : (Rect.unit (s := S2048x8) ![0, 0] S2048x8.size inb_S2048x8_S2048x8_0_0).emb (ix2 (row c r a) k) = ix2 (row c r a) k := by
    refine funext fun q => Fin.ext ?_
    fin_cases q <;> exact (Nat.zero_add _).trans (Nat.one_mul _)
  unfold coefRows
  rw [View.readAt_apply]
  refine (congrArg _ e).trans ?_
  have := View.read_writes_cons_emb (Val := Elt Ideal) (Memref.whole cc0_scratch2).view (Memref.whole cc0_scratch2).view.junk
    (Rect.unit (s := S2048x8) ![0, 0] S2048x8.size inb_S2048x8_S2048x8_0_0) v [] (ix2 (row c r a) k)
  rwa [e'] at this

/-- The matrix of expert `j`. -/
theorem plane_at (j : Fin 8) (w : Vec Ideal S8x512x1024 .f32) (k : Fin 512) (h : Fin 1024) : plane j w (ix3 0 k h) = w (ix3 j k h) := by
  refine congrArg w (funext fun q => Fin.ext ?_)
  fin_cases q
  · exact Nat.add_zero _
  · exact (Nat.zero_add _).trans (Nat.one_mul _)
  · exact (Nat.zero_add _).trans (Nat.one_mul _)

/-! ## Gate weights -/

/-- The score of row `R` at expert `e`. -/
def score (x : Vec Ideal S2048x512 .f32) (rw : Vec Ideal S512x64 .f32) (R : Fin 2048) (e : Fin 64) : EReal := ∑ k : Fin 512, x (ix2 R k) * rw (ix2 k e)

/-- The numbers of a row's two experts. -/
def first (idx : Vec Ideal S2048x2 .i32) (R : Fin 2048) : ℕ := (idx (ix2 R 0) : BitVec 32).toNat
/-- The number of a row's second expert. -/
def second (idx : Vec Ideal S2048x2 .i32) (R : Fin 2048) : ℕ := (idx (ix2 R 1) : BitVec 32).toNat

/-- Every expert's number is below 64. -/
def InRange (idx : Vec Ideal S2048x2 .i32) : Prop := ∀ R, first idx R < 64 ∧ second idx R < 64

/-- The weight of the first expert of row `R`. -/
def gate (x : Vec Ideal S2048x512 .f32) (rw : Vec Ideal S512x64 .f32) (idx : Vec Ideal S2048x2 .i32) (hI : InRange idx) (R : Fin 2048) : EReal :=
  Ideal.logistic (score x rw R ⟨first idx R, (hI R).1⟩ - score x rw R ⟨second idx R, (hI R).2⟩)

/-- The weight with which expert `e` counts for row `R`. -/
def weight (x : Vec Ideal S2048x512 .f32) (rw : Vec Ideal S512x64 .f32) (idx : Vec Ideal S2048x2 .i32) (hI : InRange idx) (R : Fin 2048) (e : ℕ) : EReal :=
  (if first idx R = e then gate x rw idx hI R else 0) + (if second idx R = e then 1 - gate x rw idx hI R else 0)

/-- A choice by a bit that says whether `p` holds. -/
theorem select_bit {α : Type} (p : Prop) [Decidable p] (a b : α) : Scalar.select (if p then 1#1 else 0#1) a b = if p then a else b := by
  by_cases h : p <;> simp [h, Scalar.select]

/-- A word is the word of its number. -/
theorem word_eq (w : BitVec 32) : w = BitVec.ofNat 32 w.toNat := ((BitVec.ofNat_toNat _ _).trans (BitVec.setWidth_eq w)).symm

/-- A sum in which only the entry of number `w` is kept. -/
theorem sum_pick (w : BitVec 32) (hw : w.toNat < 64) (f : Fin 64 → EReal) :
    ∑ e : Fin 64, Scalar.select (IntOp.cmpi CmpIPredicate.eq (BitVec.ofNat 32 e.val) w) (f e) 0 = f ⟨w.toNat, hw⟩ := by
  have hb : ∀ e : Fin 64, IntOp.cmpi CmpIPredicate.eq (BitVec.ofNat 32 e.val) w = if e.val = w.toNat then 1#1 else 0#1 := fun e => by
    have := e.isLt
    conv_lhs => rw [word_eq w]
    exact bit_eq _ _ (by omega) (by omega)
  rw [Finset.sum_eq_single ⟨w.toNat, hw⟩]
  · rw [hb, select_bit, if_pos rfl]
  · intro e _ he
    rw [hb, select_bit, if_neg (fun h => he (Fin.ext h))]
  · exact fun h => absurd (Finset.mem_univ _) h

/-- The number of expert `j` of device `c`, as a word. -/
theorem expert_word : ∀ (c : Dev nD) (j : Fin 8), IntOp.addi (Scalar.muli (BitVec.ofNat 32 c.val) 8#32) (BitVec.ofNat 32 j.val) = BitVec.ofNat 32 (8 * c.val + j.val) := by
  decide

/-- The comparison of an expert's number with that of expert `j` of device `c`. -/
theorem mine_bit (w : BitVec 32) (hw : w.toNat < 64) (c : Dev nD) (j : Fin 8) :
    IntOp.cmpi CmpIPredicate.eq w (IntOp.addi (Scalar.muli (BitVec.ofNat 32 c.val) 8#32) (BitVec.ofNat 32 j.val)) = if w.toNat = 8 * c.val + j.val then 1#1 else 0#1 := by
  have hc : c.val < 8 := c.isLt
  have := j.isLt
  rw [expert_word]
  conv_lhs => rw [word_eq w]
  exact bit_eq _ _ (by omega) (by omega)

/-- The weights device `c` computes are those of its own eight experts. -/
theorem coef_at (c : Dev nD) (x : Vec Ideal S2048x512 .f32) (rw : Vec Ideal S512x64 .f32) (idx : Vec Ideal S2048x2 .i32) (hI : InRange idx)
    (R : Fin 2048) (j : Fin 8) : coef c x rw idx (ix2 R j) = weight x rw idx hI R (8 * c.val + j.val) := by
  rw [coef, xAll_eq, rwAll_eq, me_eq]
  pointwise [k0_pay3, k0_pay1, k0_pay2]
  rw [col0_at, col1_at, mine_bit _ (hI R).1, mine_bit _ (hI R).2, select_bit, select_bit,
    sum_pick _ (hI R).1 (fun e => ∑ k : Fin 512, x (ix2 R k) * rw (ix2 k e)),
    sum_pick _ (hI R).2 (fun e => ∑ k : Fin 512, x (ix2 R k) * rw (ix2 k e))]
  rfl

end Cert.KernelIdeal.Moe
-- ==== Proof.Value.Messages.lean ====
/-
# What one device contributes to a row

For a row routed to it a device multiplies the row, weighted, with each of its eight matrices and adds up. Its slot table gathers the
row into a slot and the message scatters the slot back, so that each row receives its contribution, and a row that is not routed
to the device receives 0, which is the contribution too since the row's weights are 0 there.
-/
module

public import proofs.«01_k».proof.Proof.Value.Weights

@[expose] public section

set_option maxRecDepth 16384

noncomputable section

namespace Cert.KernelIdeal.Moe

open Cert.KernelIdeal Cert.KernelIdeal.Gen Cert.Moe
open Idealize.ShloMosaic

/-- Row `a` of chunk `r` of device `c` is routed to `c`. -/
abbrev act (idx : Vec Ideal S2048x2 .i32) (c r : Fin 8) (a : Fin 256) : Prop :=
  Routed (idx (ix2 (row c r a) 0)) (idx (ix2 (row c r a) 1)) c.val

/-- Tables of the same rows are the same. -/
theorem entry_congr (p q : Fin 256 → Prop) [DecidablePred p] [DecidablePred q] (h : ∀ a, p a ↔ q a) (a : Fin 256) (s : Fin 128) :
    entry p a s = entry q a s := by
  have e : p = q := funext fun a => propext (h a)
  subst e
  congr!

/-- The table of a chunk. -/
theorem slotsAt_at (idx : Vec Ideal S2048x2 .i32) (hI : InRange idx) (c : Dev nD) (r : Fin 8) (a : Fin 256) (s : Fin 128) :
    slotsAt c r idx (ix2 a s) = entry (act idx c r) a s := by
  have h := slots_at c (idx0 c r idx) (idx1 c r idx) (fun a => by rw [idx0_at]; exact (hI _).1) (fun a => by rw [idx1_at]; exact (hI _).2) a s
  rw [slotsAt, me_eq, h]
  exact entry_congr _ _ (fun b => by rw [idx0_at, idx1_at]) a s

variable (I : Ins Ideal) (hI : InRange I.idx)

/-- What device `c` contributes to row `R`, column `h`. -/
def contribution (c : Fin 8) (R : Fin 2048) (h : Fin 1024) : EReal :=
  ∑ j : Fin 8, ∑ k : Fin 512, (weight I.x I.rw I.idx hI R (8 * c.val + j.val) * I.x (ix2 R k)) * I.w (ix3 j k h)

/-- A row that is not routed to the device has weight 0 with all its experts. -/
theorem weight_zero (c r : Fin 8) (a : Fin 256) (j : Fin 8) (ha : ¬ act I.idx c r a) :
    weight I.x I.rw I.idx hI (row c r a) (8 * c.val + j.val) = 0 := by
  have hj := j.isLt
  have h0 : ¬ first I.idx (row c r a) = 8 * c.val + j.val := fun h => ha (Or.inl (by
    show first I.idx (row c r a) / 8 = c.val
    rw [h]; omega))
  have h1 : ¬ second I.idx (row c r a) = 8 * c.val + j.val := fun h => ha (Or.inr (by
    show second I.idx (row c r a) / 8 = c.val
    rw [h]; omega))
  rw [weight, if_neg h0, if_neg h1, add_zero]

/-- Device `c` contributes nothing to a row that is not routed to it. -/
theorem contribution_zero (c r : Fin 8) (a : Fin 256) (h : Fin 1024) (ha : ¬ act I.idx c r a) : contribution I hI c (row c r a) h = 0 :=
  Finset.sum_eq_zero fun j _ => Finset.sum_eq_zero fun k _ => by rw [weight_zero I hI c r a j ha, zero_mul, zero_mul]

/-! ## The gathered rows and the product -/

/-- An entry of the gathered rows times their weight for expert `j`. -/
theorem weighted_at (j : Fin 8) (cc : FVec Ideal S128x8 .f32) (xg : FVec Ideal S128x512 .f32) (s : Fin 128) (k : Fin 512) :
    weighted j cc xg (ix2 s k) = cc (ix2 s j) * xg (ix2 s k) := by pointwise [weighted]

/-- The gathered weights, read at an entry: the column of the table times the weights. -/
theorem gather_coef_at (pt : FVec Ideal S256x128 .bf16) (cc : FVec Ideal S256x8 .f32) (s : Fin 128) (j : Fin 8) :
    k0_pay13 pt cc (ix2 s j) = ∑ b : Fin 256, pt (ix2 b s) * cc (ix2 b j) := by pointwise [k0_pay13]

/-- The gathered tokens, read at an entry: the column of the table times the tokens. -/
theorem gather_x_at (pt : FVec Ideal S256x128 .bf16) (x : FVec Ideal S256x512 .f32) (s : Fin 128) (k : Fin 512) :
    k0_pay12 pt x (ix2 s k) = ∑ b : Fin 256, pt (ix2 b s) * x (ix2 b k) := by pointwise [k0_pay12]

/-- The weighted tokens in a slot: the sum over the rows of the table entry times the weight, times the sum of the table entry times the token. -/
theorem gathered_eq (c : Dev nD) (r j : Fin 8) (s : Fin 128) (k : Fin 512) :
    gathered c I r j (ix2 s k) = (∑ b : Fin 256, entry (act I.idx c r) b s * weight I.x I.rw I.idx hI (row c r b) (8 * c.val + j.val))
      * ∑ b : Fin 256, entry (act I.idx c r) b s * I.x (ix2 (row c r b) k) := by
  rw [gathered, weighted_at]
  refine congrArg₂ (· * ·) ?_ ?_
  · rw [gather_coef_at]
    exact Finset.sum_congr rfl fun b _ => by rw [slotsAt_at I.idx hI, coefRows_at, coef_at c I.x I.rw I.idx hI]
  · rw [gather_x_at]
    exact Finset.sum_congr rfl fun b _ => by rw [slotsAt_at I.idx hI, xRows_at]

/-- An occupied slot holds its row, weighted. -/
theorem gathered_row (c : Dev nD) (r j : Fin 8) {a : Fin 256} {s : Fin 128} (ha : act I.idx c r a) (hs : rank (act I.idx c r) a = s.val) (k : Fin 512) :
    gathered c I r j (ix2 s k) = weight I.x I.rw I.idx hI (row c r a) (8 * c.val + j.val) * I.x (ix2 (row c r a) k) := by
  rw [gathered_eq I hI, gather_row (act I.idx c r) (fun b => weight I.x I.rw I.idx hI (row c r b) (8 * c.val + j.val)) ha hs,
    gather_row (act I.idx c r) (fun b => I.x (ix2 (row c r b) k)) ha hs]

include hI in
/-- An empty slot holds zeros. -/
theorem gathered_empty (c : Dev nD) (r j : Fin 8) {s : Fin 128} (hs : Empty (act I.idx c r) s) (k : Fin 512) : gathered c I r j (ix2 s k) = 0 := by
  rw [gathered_eq I hI, gather_empty (act I.idx c r) (fun b => weight I.x I.rw I.idx hI (row c r b) (8 * c.val + j.val)) hs, zero_mul]

/-- The sum over 4096 is over eight blocks of 512. -/
theorem sum_blocks (f : Fin 4096 → EReal) : ∑ q : Fin 4096, f q = ∑ j : Fin 8, ∑ k : Fin 512, f ⟨k.val + 512 * j.val, by have := j.isLt; have := k.isLt; omega⟩ := by
  rw [← Fintype.sum_prod_type']
  exact (Fintype.sum_equiv (finProdFinEquiv (m := 8) (n := 512)) _ f fun p => rfl).symm

/-- The experts' matrices stacked: row `512 j + k` is row `k` of expert `j`. -/
theorem stacked_at (w : Vec Ideal S8x512x1024 .f32) (j : Fin 8) (k : Fin 512) (h : Fin 1024) (hq : k.val + 512 * j.val < 4096) :
    stacked w (ix2 ⟨k.val + 512 * j.val, hq⟩ h) = w (ix3 j k h) := by
  have hk := k.isLt
  have e : stacked w (ix2 ⟨k.val + 512 * j.val, hq⟩ h) = k0_pay40 (plane j w) (ix2 k h) := by
    have e1 : (⟨(k.val + 512 * j.val) / 512, by have := j.isLt; omega⟩ : Fin 8) = j := Fin.ext (by show (k.val + 512 * j.val) / 512 = j.val; omega)
    have e2 : (⟨(k.val + 512 * j.val) % 512, Nat.mod_lt _ (by decide)⟩ : Fin 512) = k := Fin.ext (by show (k.val + 512 * j.val) % 512 = k.val; omega)
    show k0_pay40 (plane ⟨(k.val + 512 * j.val) / 512, _⟩ w) (ix2 ⟨(k.val + 512 * j.val) % 512, _⟩ h) = _
    rw [e1, e2]
  rw [e]
  pointwise [k0_pay40]
  exact plane_at j w k h

/-- The half of the blocks that lies above, and the half below. -/
theorem sixteen_upper (b0 b1 : Fin 8 → FVec Ideal S128x512 .bf16) (s : Fin 128) (j : Fin 8) (k : Fin 512) (hs : s.val < 256) (hq : k.val + 512 * j.val < 4096) :
    sixteen b0 b1 (ix2 ⟨s.val, hs⟩ ⟨k.val + 512 * j.val, hq⟩) = b0 j (ix2 s k) := by
  have hk := k.isLt
  have hs' := s.isLt
  have e1 : (⟨(k.val + 512 * j.val) / 512, by have := j.isLt; omega⟩ : Fin 8) = j := Fin.ext (by show (k.val + 512 * j.val) / 512 = j.val; omega)
  have e2 : (⟨(k.val + 512 * j.val) % 512, Nat.mod_lt _ (by decide)⟩ : Fin 512) = k := Fin.ext (by show (k.val + 512 * j.val) % 512 = k.val; omega)
  have e3 : (⟨s.val % 128, Nat.mod_lt _ (by decide)⟩ : Fin 128) = s := Fin.ext (by show s.val % 128 = s.val; omega)
  show (if s.val < 128 then b0 else b1) ⟨(k.val + 512 * j.val) / 512, _⟩ (ix2 ⟨s.val % 128, _⟩ ⟨(k.val + 512 * j.val) % 512, _⟩) = _
  rw [e1, e2, e3, if_pos hs']

/-- The lower half of the sixteen blocks holds the second chunk of the pair. -/
theorem sixteen_lower (b0 b1 : Fin 8 → FVec Ideal S128x512 .bf16) (s : Fin 128) (j : Fin 8) (k : Fin 512) (hs : 128 + s.val < 256) (hq : k.val + 512 * j.val < 4096) :
    sixteen b0 b1 (ix2 ⟨128 + s.val, hs⟩ ⟨k.val + 512 * j.val, hq⟩) = b1 j (ix2 s k) := by
  have hk := k.isLt
  have e1 : (⟨(k.val + 512 * j.val) / 512, by have := j.isLt; omega⟩ : Fin 8) = j := Fin.ext (by show (k.val + 512 * j.val) / 512 = j.val; omega)
  have e2 : (⟨(k.val + 512 * j.val) % 512, Nat.mod_lt _ (by decide)⟩ : Fin 512) = k := Fin.ext (by show (k.val + 512 * j.val) % 512 = k.val; omega)
  have e3 : (⟨(128 + s.val) % 128, Nat.mod_lt _ (by decide)⟩ : Fin 128) = s := Fin.ext (by show (128 + s.val) % 128 = s.val; omega)
  show (if 128 + s.val < 128 then b0 else b1) ⟨(k.val + 512 * j.val) / 512, _⟩ (ix2 ⟨(128 + s.val) % 128, _⟩ ⟨(k.val + 512 * j.val) % 512, _⟩) = _
  rw [e1, e2, e3, if_neg (by omega)]

/-- The product of a pair of chunks: a sum over the eight experts and the token entries. -/
theorem product_at (c : Dev nD) (r₀ r₁ : Fin 8) (u : Fin 256) (h : Fin 1024) :
    product c I r₀ r₁ (ix2 u h) = ∑ q : Fin 4096, sixteen (gathered c I r₀) (gathered c I r₁) (ix2 u q) * stacked I.w (ix2 q h) := by
  pointwise [product, k0_pay49]

/-- What a device has to say about slot `s` of chunk `r`. -/
theorem about_at (c : Dev nD) (r : Fin 8) (s : Fin 128) (h : Fin 1024) :
    about c I r (ix2 s h) = ∑ j : Fin 8, ∑ k : Fin 512, gathered c I r j (ix2 s k) * I.w (ix3 j k h) := by
  have hs := s.isLt
  have hup : ∀ y : FVec Ideal S256x1024 .f32, upper y (ix2 s h) = y (ix2 ⟨s.val, by omega⟩ h) := fun y => by
    refine congrArg y (funext fun a => Fin.ext ?_)
    fin_cases a <;> exact Nat.zero_add _
  have hlo : ∀ y : FVec Ideal S256x1024 .f32, lower y (ix2 s h) = y (ix2 ⟨128 + s.val, by omega⟩ h) := fun y => by
    refine congrArg y (funext fun a => Fin.ext ?_)
    fin_cases a
    · rfl
    · exact Nat.zero_add _
  rw [about]
  split
  · rw [hup, product_at, sum_blocks]
    exact Finset.sum_congr rfl fun j _ => Finset.sum_congr rfl fun k _ => by rw [sixteen_upper, stacked_at]
  · rw [hlo, product_at, sum_blocks]
    exact Finset.sum_congr rfl fun j _ => Finset.sum_congr rfl fun k _ => by rw [sixteen_lower, stacked_at]

/-- The slot of a routed row holds what device `c` contributes to the row. -/
theorem about_row (c : Dev nD) (r : Fin 8) (h : Fin 1024) (a : Fin 256) (s : Fin 128) (ha : act I.idx c r a) (hs : rank (act I.idx c r) a = s.val) :
    about c I r (ix2 s h) = contribution I hI c (row c r a) h := by
  rw [about_at, contribution]
  exact Finset.sum_congr rfl fun j _ => Finset.sum_congr rfl fun k _ => by rw [gathered_row I hI c r j ha hs]

include hI in
/-- A slot that belongs to no row holds zero. -/
theorem about_empty (c : Dev nD) (r : Fin 8) (h : Fin 1024) (s : Fin 128) (hs : Empty (act I.idx c r) s) : about c I r (ix2 s h) = 0 := by
  rw [about_at]
  exact Finset.sum_eq_zero fun j _ => Finset.sum_eq_zero fun k _ => by rw [gathered_empty I hI c r j hs, zero_mul]

/-! ## A device's own rows -/

/-- What the device adds for its own chunk is its contribution to the row. -/
theorem own_at (c : Dev nD) (hcap : routed (act I.idx c 0) ≤ 128) (a : Fin 256) (h : Fin 1024) :
    own c I (ix2 a h) = contribution I hI c (row c 0 a) h := by
  pointwise [own]
  refine (Finset.sum_congr rfl fun s _ => by rw [slotsAt_at I.idx hI]).trans
    ((scatter (act I.idx c 0) hcap (fun a => contribution I hI c (row c 0 a) h) (fun s => about c I 0 (ix2 s h))
      (fun a s ha hs => about_row I hI c 0 h a s ha hs) a).trans ?_)
  split
  · rfl
  · rename_i ha
    exact (contribution_zero I hI c 0 a h ha).symm

/-! ## Messages -/

/-- The row number of slot `s`: that of the row that occupies it, 0 when no row does. -/
def rowNumber (p : Fin 256 → Prop) [DecidablePred p] (s : Fin 128) : ℕ := ∑ b : Fin 256, if p b ∧ rank p b = s.val then b.val else 0

/-- In the slot of a routed row stands the row's number. -/
theorem rowNumber_row (p : Fin 256 → Prop) [DecidablePred p] (a : Fin 256) (s : Fin 128) (ha : p a) (hs : rank p a = s.val) : rowNumber p s = a.val := by
  rw [rowNumber, Finset.sum_eq_single a]
  · rw [if_pos ⟨ha, hs⟩]
  · exact fun b _ hb => if_neg fun h => hb (rank_inj p h.1 ha (h.2.trans hs.symm))
  · exact fun h => absurd (Finset.mem_univ _) h

/-- The number in a slot is a row of the chunk, also where the slot is empty. -/
theorem rowNumber_lt (p : Fin 256 → Prop) [DecidablePred p] (s : Fin 128) : rowNumber p s < 256 := by
  by_cases h : ∃ a, p a ∧ rank p a = s.val
  · obtain ⟨a, ha, hs⟩ := h
    rw [rowNumber_row p a s ha hs]; exact a.isLt
  · rw [rowNumber, Finset.sum_eq_zero fun b _ => if_neg fun hb => h ⟨b, hb⟩]; decide

/-- The numbers of the rows times the table: the number that stands in the slot. -/
theorem sum_numbers (p : Fin 256 → Prop) [DecidablePred p] (s : Fin 128) :
    ∑ b : Fin 256, FloatOps.sitofp (F := Ideal) FTy.bf16 (BitVec.ofNat 32 b.val) * entry p b s = (((rowNumber p s : ℕ) : ℝ) : EReal) := by
  rw [rowNumber, EReal.coe_natCast, Nat.cast_sum]
  refine Finset.sum_congr rfl fun b _ => ?_
  have e : FloatOps.sitofp (F := Ideal) FTy.bf16 (BitVec.ofNat 32 b.val) = ((b.val : ℕ) : EReal) := by
    show (((BitVec.ofNat 32 b.val).toInt : ℝ) : EReal) = _
    have hb := b.isLt
    rw [BitVec.toInt_ofNat', Int.bmod_eq_of_le (by omega) (by omega), Int.cast_natCast, EReal.coe_natCast]
  rw [e, entry]
  split <;> simp

/-- The row numbers and the results read out of a message. -/
theorem numbers_at (pt : FVec Ideal S256x128 .bf16) (rows : FVec Ideal S128x1024 .f32) (s : Fin 128) :
    numbers (packed pt rows) (ix3 0 0 s) = ∑ b : Fin 256, FloatOps.sitofp (F := Ideal) FTy.bf16 (BitVec.ofNat 32 b.val) * pt (ix2 b s) := by
  have hs := s.isLt
  have e : numbers (packed pt rows) (ix3 0 0 s) = packed pt rows (ix2 ⟨0, by decide⟩ ⟨s.val, by omega⟩) := rfl
  rw [e]
  pointwise [packed, k0_pay4]

/-- The part of a message below its first row is the products. -/
theorem results_at (pt : FVec Ideal S256x128 .bf16) (rows : FVec Ideal S128x1024 .f32) (s : Fin 128) (h : Fin 1024) :
    results (packed pt rows) (ix3 0 s h) = rows (ix2 s h) := by
  have hs := s.isLt
  have e : results (packed pt rows) (ix3 0 s h) = packed pt rows (ix2 ⟨1 + s.val, by omega⟩ h) := rfl
  rw [e]
  pointwise [packed, k0_pay4]

/-- A message of device `c` about chunk `r` adds the device's contribution to each of the chunk's rows. -/
theorem absorb_at (c : Dev nD) (r : Fin 8) (hcap : routed (act I.idx c r) ≤ 128) (acc : FVec Ideal S256x1024 .f32) (a : Fin 256) (h : Fin 1024) :
    absorb acc (packed (slotsAt c r I.idx) (about c I r)) (ix2 a h) = acc (ix2 a h) + contribution I hI c (row c r a) h := by
  have ha := a.isLt
  rw [absorb]
  pointwise [k0_pay172]
  refine congrArg (acc (ix2 a h) + ·) ?_
  have hterm : ∀ s : Fin 128, FloatOps.sitofp (F := Ideal) FTy.f32 (BitVec.setWidth 32 (IntOp.cmpi CmpIPredicate.eq (BitVec.ofNat 32 a.val)
      (FloatOps.fptosi (F := Ideal) (φ := FTy.bf16) 32 (numbers (packed (slotsAt c r I.idx) (about c I r)) (ix3 0 0 s)))))
      = if a.val = rowNumber (act I.idx c r) s then (1 : EReal) else 0 := fun s => by
    have hn := rowNumber_lt (act I.idx c r) s
    have e : (numbers (packed (slotsAt c r I.idx) (about c I r)) (ix3 0 0 s) : EReal) = (((rowNumber (act I.idx c r) s : ℕ) : ℝ) : EReal) :=
      (numbers_at _ _ s).trans ((Finset.sum_congr rfl fun b _ => by rw [slotsAt_at I.idx hI]).trans (sum_numbers (act I.idx c r) s))
    rw [e]
    refine (congrArg (fun z => FloatOps.sitofp (F := Ideal) FTy.f32 (BitVec.setWidth 32 (IntOp.cmpi CmpIPredicate.eq (BitVec.ofNat 32 a.val) z)))
      (fptosi_nat (rowNumber (act I.idx c r) s) (by omega))).trans ?_
    rw [bit_eq _ _ (by omega) (by omega), bit_value]
  refine (Finset.sum_congr rfl fun s _ => by rw [hterm, results_at]).trans
    ((scatter_numbers (act I.idx c r) hcap (fun a => contribution I hI c (row c r a) h) (fun s => about c I r (ix2 s h))
      (rowNumber (act I.idx c r)) (fun a s ha hs => about_row I hI c r h a s ha hs) (fun a s ha hs => rowNumber_row _ a s ha hs)
      (fun s hs => about_empty I hI c r h s hs) a).trans ?_)
  split
  · rfl
  · rename_i ha
    exact (contribution_zero I hI c r a h ha).symm

end Cert.KernelIdeal.Moe
-- ==== Proof.Value.Result.lean ====
/-
# What a device writes

Device `c` writes, in row `a` of its block, the sum of what the eight devices contribute to row `256 c + a` of the whole.
-/
module

public import proofs.«01_k».proof.Proof.Value.Messages

@[expose] public section

set_option maxRecDepth 16384

noncomputable section

namespace Cert.KernelIdeal.Moe

open Cert.KernelIdeal Cert.KernelIdeal.Gen Cert.Moe
open Idealize.ShloMosaic

/-- No device has more than 128 rows of a chunk. -/
def Fits (idx : Vec Ideal S2048x2 .i32) : Prop := ∀ c r : Fin 8, routed (act idx c r) ≤ 128

/-- The eight devices, as device `c` meets them: itself and the senders of its seven messages. -/
theorem devices : ∀ c : Fin 8, (Finset.univ : Finset (Fin 8)).val =
    c ::ₘ peer (6 : Fin 7) c ::ₘ peer (5 : Fin 7) c ::ₘ peer (4 : Fin 7) c ::ₘ peer (3 : Fin 7) c ::ₘ peer (2 : Fin 7) c ::ₘ peer (1 : Fin 7) c
      ::ₘ peer (0 : Fin 7) c ::ₘ (0 : Multiset (Fin 8)) := by decide

/-- A sum over the eight devices, in the order in which device `c` meets them. -/
theorem sum_devices (c : Fin 8) (f : Fin 8 → EReal) :
    ∑ d, f d = f c + f (peer 6 c) + f (peer 5 c) + f (peer 4 c) + f (peer 3 c) + f (peer 2 c) + f (peer 1 c) + f (peer 0 c) := by
  rw [Finset.sum, devices c]
  simp only [Multiset.map_cons, Multiset.map_zero, Multiset.sum_cons, Multiset.sum_zero, add_zero, add_assoc]

/-- The chunk that a sender's message is about holds the receiver's own rows. -/
theorem row_peer : ∀ (j : Fin 7) (c : Fin 8) (a : Fin 256), row (peer j.rev c) j.succ a = row c 0 a := by
  have h : ∀ (j : Fin 7) (c : Fin 8), ((peer j.rev c).val + j.succ.val) % 8 = (c.val + (0 : Fin 8).val) % 8 := by decide
  exact fun j c a => Fin.ext (congrArg (fun n => 256 * n + a.val) (h j c))

/-- A device's inputs, from what its first three arrays are. -/
theorem ins_eq (J : Ins Ideal) {x : Vec Ideal S2048x512 .f32} {rw : Vec Ideal S512x64 .f32} {idx : Vec Ideal S2048x2 .i32}
    (hx : J.x = x) (hrw : J.rw = rw) (hidx : J.idx = idx) : J = ⟨x, rw, idx, J.w⟩ := by
  subst hx hrw hidx
  rfl

/-- What device `c` writes, at an entry: the sum over the eight devices, their eight experts and the token entries of the row's weight for the expert times the token entry times the expert's entry. -/
theorem result_at (I : Dev nD → Ins Ideal) (x : Vec Ideal S2048x512 .f32) (rw : Vec Ideal S512x64 .f32) (idx : Vec Ideal S2048x2 .i32)
    (hx : ∀ c, (I c).x = x) (hrw : ∀ c, (I c).rw = rw) (hidx : ∀ c, (I c).idx = idx) (hI : InRange idx) (hF : Fits idx)
    (c : Fin 8) (a : Fin 256) (h : Fin 1024) :
    result I c (ix2 a h) = ∑ d : Fin 8, ∑ j : Fin 8, ∑ k : Fin 512,
      (weight x rw idx hI (row c 0 a) (8 * d.val + j.val) * x (ix2 (row c 0 a) k)) * (I d).w (ix3 j k h) := by
  obtain ⟨w, rfl⟩ : ∃ w : Dev nD → Vec Ideal S8x512x1024 .f32, I = fun d => ⟨x, rw, idx, w d⟩ :=
    ⟨fun d => (I d).w, funext fun d => ins_eq (I d) (hx d) (hrw d) (hidx d)⟩
  have hm : ∀ (acc : FVec Ideal S256x1024 .f32) (j : Fin 7), absorb acc (arrived (fun d => ⟨x, rw, idx, w d⟩) c j) (ix2 a h)
      = acc (ix2 a h) + contribution ⟨x, rw, idx, w (peer j.rev c)⟩ hI (peer j.rev c) (row c 0 a) h := fun acc j => by
    rw [← row_peer j c a]
    exact absorb_at ⟨x, rw, idx, w (peer j.rev c)⟩ hI (peer j.rev c) j.succ (hF _ _) acc a h
  rw [result, total, hm, hm, hm, hm, hm, hm, hm, own_at ⟨x, rw, idx, w c⟩ hI c (hF _ _),
    sum_devices c (fun d => ∑ j : Fin 8, ∑ k : Fin 512,
      (weight x rw idx hI (row c 0 a) (8 * d.val + j.val) * x (ix2 (row c 0 a) k)) * w d (ix3 j k h))]
  rfl

end Cert.KernelIdeal.Moe
-- ==== Proof.Value.Reference.lean ====
/-
# What the reference computes

The reference's run as one composed term, and that term read at an entry: for each row the two experts' shares of the softmax,
each divided by their sum, times the row's products with the two experts' matrices.
-/
module

public import proofs.«01_k».proof.Proof.Gen.ReferenceIdeal
public import Idealize.ShloMosaic.Lib.Claim
public import Idealize.ShloMosaic.Adequacy
public import Idealize.ShloMosaic.Init
public import Idealize.ShloMosaic.Lib.Pointwise
public import Idealize.ShloMosaic.Lib.StableHlo.ReadAt
public import Idealize.ShloMosaic.Lib.StableHlo.Predicate

@[expose] public section

set_option maxRecDepth 16384

noncomputable section

namespace Cert.ReferenceIdeal.Moe

open Cert.ReferenceIdeal Cert.ReferenceIdeal.Gen
open Idealize.ShloMosaic Idealize.SL.Sem

/-- The scores of the rows at the experts. -/
def scores (x : FVec Ideal S2048x512 .f32) (rw : FVec Ideal S512x64 .f32) : FVec Ideal S2048x64 .f32 :=
  Host.dotGeneral dot_S2048x512_S512x64_S2048x64_1_0_0_1_n_n none x rw

/-- A value for each row, along the row. -/
def spread (v : FVec Ideal S2048 .f32) : FVec Ideal S2048x64 .f32 :=
  broadcastInDim S2048x64 ![0, 1] bcast_S2048x1_S2048x64_0_1 (broadcastInDim S2048x1 ![0] bcast_S2048_S2048x1_0 v)

/-- The exponentials of the scores less their row's largest. -/
def powers (x : FVec Ideal S2048x512 .f32) (rw : FVec Ideal S512x64 .f32) : FVec Ideal S2048x64 .f32 :=
  Host.exp (subf (scores x rw) (spread (Host.reduce FloatOps.maximumf (scores x rw) (constant S_ .f32 0xFF800000#32) reducesTo_S2048x64_S2048_d1 h_S_)))

/-- The softmax of the scores. -/
def probs (x : FVec Ideal S2048x512 .f32) (rw : FVec Ideal S512x64 .f32) : FVec Ideal S2048x64 .f32 :=
  Host.divf (powers x rw) (spread (Host.reduceAdd (powers x rw) (constant S_ .f32 0x00000000#32) reducesTo_S2048x64_S2048_d1 h_S_))

/-- The rows' first and second experts. -/
def expert0 (idx : IVec S2048x2 32) : IVec S2048 32 :=
  shapeCast S2048 (extractStridedSlice S2048x1 ![0, 0] idx slices_S2048x2_S2048x1_0_0) shapeCasts_S2048x1_S2048
/-- The number of each row's second expert. -/
def expert1 (idx : IVec S2048x2 32) : IVec S2048 32 :=
  shapeCast S2048 (extractStridedSlice S2048x1 ![0, 1] idx slices_S2048x2_S2048x1_0_1) shapeCasts_S2048x1_S2048

/-- The column of the indices of one entry of each row, a negative index counted from the row's end. -/
def wrapped (e : IVec S2048x1 32) : IVec S2048x1 32 :=
  select (cmpi .slt e (broadcastInDim S2048x1 ![] bcast_S_S2048x1 (constantI S_ 32 0#32)))
    (addi e (broadcastInDim S2048x1 ![] bcast_S_S2048x1 (constantI S_ 32 64#32))) e

/-- One entry of each row. -/
def picked (p : FVec Ideal S2048x64 .f32) (e : IVec S2048 32) : FVec Ideal S2048x1 .f32 :=
  Host.gather gather_S2048x64_S2048x1x1_S2048x1_n_1_0_0_1_2_11 p
    (shapeCast S2048x1x1 (wrapped (broadcastInDim S2048x1 ![0] bcast_S2048_S2048x1_0 e)) shapeCasts_S2048x1_S2048x1x1)

/-- Each row's product with the matrix of its expert. -/
def products (x : FVec Ideal S2048x512 .f32) (w : FVec Ideal S64x512x1024 .f32) (e : IVec S2048 32) : FVec Ideal S2048x1024 .f32 :=
  Host.dotGeneral dot_S2048x512_S2048x512x1024_S2048x1024_1_1_n_2_0_0 none x
    (Host.gather gather_S64x512x1024_S2048x1_S2048x512x1024_12_0_n_n_0_1_15121024 w (broadcastInDim S2048x1 ![0] bcast_S2048_S2048x1_0 e))

/-- A share of a sum, times a product. -/
def part (g gs : FVec Ideal S2048x1 .f32) (y : FVec Ideal S2048x1024 .f32) : FVec Ideal S2048x1024 .f32 :=
  mulf (broadcastInDim S2048x1024 ![0, 1] bcast_S2048x1_S2048x1024_0_1 (Host.divf g gs)) y

/-- The reference's result. -/
def out (x : FVec Ideal S2048x512 .f32) (rw : FVec Ideal S512x64 .f32) (idx : IVec S2048x2 32) (w : FVec Ideal S64x512x1024 .f32) : FVec Ideal S2048x1024 .f32 :=
  addf
    (part (picked (probs x rw) (expert0 idx)) (addf (picked (probs x rw) (expert0 idx)) (picked (probs x rw) (expert1 idx))) (products x w (expert0 idx)))
    (part (picked (probs x rw) (expert1 idx)) (addf (picked (probs x rw) (expert0 idx)) (picked (probs x rw) (expert1 idx))) (products x w (expert1 idx)))

/-- The reference's run leaves that result, and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      r.2.mem (((0 : Dev nD).tc : Thread nD τ).loc main_v29) = out (m (((0 : Dev nD).tc : Thread nD τ).loc main_arg0)) (m (((0 : Dev nD).tc : Thread nD τ).loc main_arg1))
        (m (((0 : Dev nD).tc : Thread nD τ).loc main_arg2)) (m (((0 : Dev nD).tc : Thread nD τ).loc main_arg3))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)) := by
  hlo_run
  rfl

end Cert.ReferenceIdeal.Moe
-- ==== Proof.Value.ReferenceAt.lean ====
/-
# The reference's result at an entry

Where every expert's number is below 64, the entry of a row is, for each of the row's two experts, the expert's share of the two
softmax values times the row's product with the expert's matrix.
-/
module

public import proofs.«01_k».proof.Proof.Value.Reference

@[expose] public section

set_option maxRecDepth 16384

noncomputable section

namespace Cert.ReferenceIdeal.Moe

open Cert.ReferenceIdeal Cert.ReferenceIdeal.Gen
open Idealize.ShloMosaic Idealize.SL.Sem

/-- A word below 64, read as a signed index. -/
theorem index_eq (w : BitVec 32) (hw : w.toNat < 64) : min w.toInt.toNat 63 = w.toNat := by
  rw [StableHlo.Predicate.toInt_eq_toNat_of_lt (by omega)]; omega

/-- One entry of each row: the entry that the index names. -/
theorem gather_entry (p : FVec Ideal S2048x64 .f32) (i : IVec S2048x1x1 32) (R : Fin 2048) (hi : (i (ix3 R 0 0)).toNat < 64) :
    Host.gather gather_S2048x64_S2048x1x1_S2048x1_n_1_0_0_1_2_11 p i (ix2 R 0) = p (ix2 R ⟨(i (ix3 R 0 0)).toNat, hi⟩) := by
  have hs : ∀ c, gather_S2048x64_S2048x1x1_S2048x1_n_1_0_0_1_2_11.siIdx (ix2 R 0) c = ix3 R 0 0 := fun c => by
    funext b
    have hc := c.isLt
    fin_cases b
    · rfl
    · rfl
    · exact Subsingleton.elim (α := Fin 1) _ _
  refine congrArg p (funext fun a => Fin.ext ?_)
  fin_cases a
  · show 0 + R.val + 0 = R.val
    omega
  · show min (i (gather_S2048x64_S2048x1x1_S2048x1_n_1_0_0_1_2_11.siIdx (ix2 R 0) _)).toInt.toNat (64 - 1) + 0 + 0 = (i (ix3 R 0 0)).toNat
    rw [hs]
    exact index_eq _ hi

/-- A row's matrix: the one that the index names. -/
theorem gather_matrix (w : FVec Ideal S64x512x1024 .f32) (i : IVec S2048x1 32) (R : Fin 2048) (k : Fin 512) (h : Fin 1024) (hi : (i (ix2 R 0)).toNat < 64) :
    Host.gather gather_S64x512x1024_S2048x1_S2048x512x1024_12_0_n_n_0_1_15121024 w i (ix3 R k h) = w (ix3 ⟨(i (ix2 R 0)).toNat, hi⟩ k h) := by
  have hs : ∀ c, gather_S64x512x1024_S2048x1_S2048x512x1024_12_0_n_n_0_1_15121024.siIdx (ix3 R k h) c = ix2 R 0 := fun c => by
    funext b
    fin_cases b
    · rfl
    · exact Subsingleton.elim (α := Fin 1) _ _
  refine congrArg w (funext fun a => Fin.ext ?_)
  fin_cases a
  · show min (i (gather_S64x512x1024_S2048x1_S2048x512x1024_12_0_n_n_0_1_15121024.siIdx (ix3 R k h) _)).toInt.toNat (64 - 1) + 0 + 0 = (i (ix2 R 0)).toNat
    rw [hs]
    exact index_eq _ hi
  · show 0 + 0 + k.val = k.val
    omega
  · show 0 + 0 + h.val = h.val
    omega

/-- A row's first expert is the first column of the experts' numbers. -/
theorem expert0_at (idx : IVec S2048x2 32) (R : Fin 2048) : expert0 idx (ix1 R) = idx (ix2 R 0) := by pointwise [expert0]
/-- Its second expert is the second column. -/
theorem expert1_at (idx : IVec S2048x2 32) (R : Fin 2048) : expert1 idx (ix1 R) = idx (ix2 R 1) := by pointwise [expert1]

/-- A score is the product of the token and the column of the router. -/
theorem scores_at (x : FVec Ideal S2048x512 .f32) (rw : FVec Ideal S512x64 .f32) (R : Fin 2048) (e : Fin 64) : scores x rw (ix2 R e) = ∑ k : Fin 512, x (ix2 R k) * rw (ix2 k e) := by
  pointwise [scores]

/-- A number of each row, repeated along the row. -/
theorem spread_at (v : FVec Ideal S2048 .f32) (R : Fin 2048) (e : Fin 64) : spread v (ix2 R e) = v (ix1 R) := by
  pointwise [spread]

/-- The exponential of a score less the row's greatest score. -/
theorem powers_at (x : FVec Ideal S2048x512 .f32) (rw : FVec Ideal S512x64 .f32) (R : Fin 2048) (e : Fin 64) :
    powers x rw (ix2 R e) = Ideal.exp (scores x rw (ix2 R e) - Finset.univ.fold max (Ideal.ofBits .f32 0xFF800000#32) (fun q : Fin 64 => scores x rw (ix2 R q))) := by
  pointwise [powers, spread]

/-- A softmax value: the exponential over the row's sum of exponentials. -/
theorem probs_at (x : FVec Ideal S2048x512 .f32) (rw : FVec Ideal S512x64 .f32) (R : Fin 2048) (e : Fin 64) :
    probs x rw (ix2 R e) = Ideal.div (powers x rw (ix2 R e)) (∑ q : Fin 64, powers x rw (ix2 R q)) := by
  pointwise [probs, spread]

/-- One expert's part of the result: its share times its product. -/
theorem part_at (g gs : FVec Ideal S2048x1 .f32) (y : FVec Ideal S2048x1024 .f32) (R : Fin 2048) (h : Fin 1024) :
    part g gs y (ix2 R h) = Ideal.div (g (ix2 R 0)) (gs (ix2 R 0)) * y (ix2 R h) := by
  pointwise [part]

/-- An index below 64 is not negative, so it is not moved. -/
theorem wrap_word (w : BitVec 32) (hw : w.toNat < 64) : Scalar.select (IntOp.cmpi CmpIPredicate.slt w 0#32) (IntOp.addi w 64#32) w = w := by
  have h : w.slt 0#32 = false := by
    rw [BitVec.slt_eq_decide, StableHlo.Predicate.toInt_eq_toNat_of_lt (by omega)]
    exact decide_eq_false (by simp)
  simp [IntOp.cmpi, h, Scalar.select]

/-- The softmax value that a row's expert names. -/
theorem picked_at (p : FVec Ideal S2048x64 .f32) (e : IVec S2048 32) (R : Fin 2048) (he : (e (ix1 R)).toNat < 64) :
    picked p e (ix2 R 0) = p (ix2 R ⟨(e (ix1 R)).toNat, he⟩) := by
  have hw : shapeCast S2048x1x1 (wrapped (broadcastInDim S2048x1 ![0] bcast_S2048_S2048x1_0 e)) shapeCasts_S2048x1_S2048x1x1 (ix3 R 0 0) = e (ix1 R) := by
    pointwise [wrapped]
    exact wrap_word _ he
  rw [picked, gather_entry p _ R (by rw [hw]; exact he)]
  exact congrArg p (congrArg (ix2 R) (Fin.ext (congrArg BitVec.toNat hw)))

/-- The product of a row with the matrix of its expert. -/
theorem products_at (x : FVec Ideal S2048x512 .f32) (w : FVec Ideal S64x512x1024 .f32) (e : IVec S2048 32) (R : Fin 2048) (h : Fin 1024) (he : (e (ix1 R)).toNat < 64) :
    products x w e (ix2 R h) = ∑ k : Fin 512, x (ix2 R k) * w (ix3 ⟨(e (ix1 R)).toNat, he⟩ k h) := by
  have hw : broadcastInDim S2048x1 ![0] bcast_S2048_S2048x1_0 e (ix2 R 0) = e (ix1 R) := by pointwise
  pointwise [products]
  refine Finset.sum_congr rfl fun k _ => congrArg (x (ix2 R k) * ·) ?_
  rw [gather_matrix w _ R k h (by rw [hw]; exact he)]
  exact congrArg w (congrArg (fun q => ix3 q k h) (Fin.ext (congrArg BitVec.toNat hw)))

/-- The softmax value of row `R` at expert `e`. -/
def share (x : FVec Ideal S2048x512 .f32) (rw : FVec Ideal S512x64 .f32) (R : Fin 2048) (e : Fin 64) : EReal := probs x rw (ix2 R e)

/-- The result at an entry. -/
theorem out_at (x : FVec Ideal S2048x512 .f32) (rw : FVec Ideal S512x64 .f32) (idx : IVec S2048x2 32) (w : FVec Ideal S64x512x1024 .f32) (R : Fin 2048) (h : Fin 1024)
    (h0 : (idx (ix2 R 0)).toNat < 64) (h1 : (idx (ix2 R 1)).toNat < 64) :
    out x rw idx w (ix2 R h) =
      Ideal.div (share x rw R ⟨_, h0⟩) (share x rw R ⟨_, h0⟩ + share x rw R ⟨_, h1⟩) * (∑ k : Fin 512, x (ix2 R k) * w (ix3 ⟨_, h0⟩ k h))
      + Ideal.div (share x rw R ⟨_, h1⟩) (share x rw R ⟨_, h0⟩ + share x rw R ⟨_, h1⟩) * (∑ k : Fin 512, x (ix2 R k) * w (ix3 ⟨_, h1⟩ k h)) := by
  have e0 := expert0_at idx R
  have e1 := expert1_at idx R
  have p0 : picked (probs x rw) (expert0 idx) (ix2 R 0) = share x rw R ⟨_, h0⟩ := by
    rw [picked_at _ _ R (by rw [e0]; exact h0)]
    exact congrArg (share x rw R) (Fin.ext (congrArg BitVec.toNat e0))
  have p1 : picked (probs x rw) (expert1 idx) (ix2 R 0) = share x rw R ⟨_, h1⟩ := by
    rw [picked_at _ _ R (by rw [e1]; exact h1)]
    exact congrArg (share x rw R) (Fin.ext (congrArg BitVec.toNat e1))
  have y0 : products x w (expert0 idx) (ix2 R h) = ∑ k : Fin 512, x (ix2 R k) * w (ix3 ⟨_, h0⟩ k h) := by
    rw [products_at _ _ _ R h (by rw [e0]; exact h0)]
    exact congrArg (fun q : Fin 64 => ∑ k : Fin 512, x (ix2 R k) * w (ix3 q k h)) (Fin.ext (congrArg BitVec.toNat e0))
  have y1 : products x w (expert1 idx) (ix2 R h) = ∑ k : Fin 512, x (ix2 R k) * w (ix3 ⟨_, h1⟩ k h) := by
    rw [products_at _ _ _ R h (by rw [e1]; exact h1)]
    exact congrArg (fun q : Fin 64 => ∑ k : Fin 512, x (ix2 R k) * w (ix3 q k h)) (Fin.ext (congrArg BitVec.toNat e1))
  rw [← p0, ← p1, ← y0, ← y1]
  refine congrArg₂ (· + ·) (part_at _ _ _ R h) (part_at _ _ _ R h)

end Cert.ReferenceIdeal.Moe
-- ==== Proof.Value.Softmax.lean ====
/-
# Two softmax values, normalised, and the logistic function

A softmax value divided by the sum of itself and another one is the logistic function of the difference of the two scores: the
greatest score and the sum over all the experts cancel. This needs the scores to be real numbers, and they are where the tokens
and the router's matrix are.
-/
module

public import proofs.«01_k».proof.Proof.Value.ReferenceAt

@[expose] public section

noncomputable section

namespace Cert.ReferenceIdeal.Moe

open Cert.ReferenceIdeal Cert.ReferenceIdeal.Gen
open Idealize.ShloMosaic Idealize.SL.Sem

/-- The entries of an array are real numbers. -/
def Finite {s : Shape} (v : FVec Ideal s .f32) : Prop := ∀ i, ∃ r : ℝ, v i = (r : EReal)

/-- A sum of real numbers, taken among the extended ones. -/
theorem sum_real {n : ℕ} (f : Fin n → ℝ) : ∑ k, (f k : EReal) = ((∑ k, f k : ℝ) : EReal) := by
  classical
  have h : ∀ t : Finset (Fin n), ∑ k ∈ t, (f k : EReal) = ((∑ k ∈ t, f k : ℝ) : EReal) := fun t => by
    induction t using Finset.induction_on with
    | empty => rfl
    | insert a t ha ih => rw [Finset.sum_insert ha, Finset.sum_insert ha, ih, EReal.coe_add]
  exact h _

/-- The score of a row at an expert is a real number. -/
theorem scores_real (x : FVec Ideal S2048x512 .f32) (rw : FVec Ideal S512x64 .f32) (hx : Finite x) (hrw : Finite rw) (R : Fin 2048) :
    ∃ s : Fin 64 → ℝ, ∀ e, scores x rw (ix2 R e) = (s e : EReal) := by
  choose u hu using hx
  choose v hv using hrw
  refine ⟨fun e => ∑ k : Fin 512, u (ix2 R k) * v (ix2 k e), fun e => ?_⟩
  rw [scores_at, ← sum_real]
  exact Finset.sum_congr rfl fun k _ => by rw [hu, hv, EReal.coe_mul]

/-- The greatest of the scores is a real number. -/
theorem greatest_real (s : Fin 64 → ℝ) : ∃ M : ℝ, Finset.univ.fold max (Ideal.ofBits .f32 0xFF800000#32) (fun q => (s q : EReal)) = (M : EReal) := by
  have hb : Ideal.ofBits .f32 0xFF800000#32 = ⊥ := by simp [Ideal.ofBits, Ideal.ieee]
  rw [hb]
  refine ⟨_, (EReal.coe_toReal ?_ ?_).symm⟩
  · exact ((Finset.fold_max_lt _).2 ⟨bot_lt_top, fun q _ => EReal.coe_lt_top _⟩).ne
  · exact ((Finset.lt_fold_max _).2 (.inr ⟨(0 : Fin 64), Finset.mem_univ _, EReal.bot_lt_coe (s 0)⟩)).ne'

/-- The softmax values of a row: an exponential of the score, divided by a positive number that all experts share. -/
theorem share_real (x : FVec Ideal S2048x512 .f32) (rw : FVec Ideal S512x64 .f32) (hx : Finite x) (hrw : Finite rw) (R : Fin 2048) :
    ∃ (s : Fin 64 → ℝ) (M Z : ℝ), 0 < Z ∧ (∀ e, scores x rw (ix2 R e) = (s e : EReal))
      ∧ ∀ e, share x rw R e = ((Real.exp (s e - M) / Z : ℝ) : EReal) := by
  obtain ⟨s, hs⟩ := scores_real x rw hx hrw R
  obtain ⟨M, hM⟩ := greatest_real s
  have hp : ∀ e, powers x rw (ix2 R e) = ((Real.exp (s e - M) : ℝ) : EReal) := fun e => by
    rw [powers_at, show (fun q : Fin 64 => scores x rw (ix2 R q)) = fun q => (s q : EReal) from funext hs, hM, hs, ← EReal.coe_sub, Ideal.exp_coe]
  have hZ : 0 < ∑ q : Fin 64, Real.exp (s q - M) := Finset.sum_pos (fun q _ => Real.exp_pos _) ⟨0, Finset.mem_univ _⟩
  refine ⟨s, M, _, hZ, hs, fun e => ?_⟩
  rw [share, probs_at, Finset.sum_congr rfl fun q _ => hp q, hp, sum_real, Ideal.div_coe hZ.ne', ← EReal.coe_mul, mul_one_div]

/-- The two normalised softmax values of a row are a real number between 0 and 1, the logistic function of the difference of the
two scores, and what remains of it to 1. -/
theorem shares (x : FVec Ideal S2048x512 .f32) (rw : FVec Ideal S512x64 .f32) (hx : Finite x) (hrw : Finite rw) (R : Fin 2048) (e₀ e₁ : Fin 64) :
    ∃ g : ℝ, 0 ≤ g ∧ g ≤ 1 ∧ Ideal.logistic (scores x rw (ix2 R e₀) - scores x rw (ix2 R e₁)) = (g : EReal)
      ∧ Ideal.div (share x rw R e₀) (share x rw R e₀ + share x rw R e₁) = (g : EReal)
      ∧ Ideal.div (share x rw R e₁) (share x rw R e₀ + share x rw R e₁) = 1 - (g : EReal) := by
  obtain ⟨s, M, Z, hZ, hs, hp⟩ := share_real x rw hx hrw R
  have h0 := Real.exp_pos (s e₀ - M)
  have h1 := Real.exp_pos (s e₁ - M)
  have hq : Real.exp (-(s e₀ - s e₁)) = Real.exp (s e₁ - M) / Real.exp (s e₀ - M) := by
    rw [← Real.exp_sub]; congr 1; ring
  have hsum : Real.exp (s e₀ - M) / Z + Real.exp (s e₁ - M) / Z ≠ 0 := by positivity
  refine ⟨(1 + Real.exp (-(s e₀ - s e₁)))⁻¹, by positivity, inv_le_one_of_one_le₀ (by linarith [Real.exp_pos (-(s e₀ - s e₁))]), ?_, ?_, ?_⟩
  · rw [hs, hs, ← EReal.coe_sub, Ideal.logistic_coe]
  · rw [hp, hp, ← EReal.coe_add, Ideal.div_coe hsum, ← EReal.coe_mul, hq]
    refine congrArg _ ?_
    field_simp
  · rw [hp, hp, ← EReal.coe_add, Ideal.div_coe hsum, ← EReal.coe_mul, hq, ← EReal.coe_one, ← EReal.coe_sub]
    refine congrArg _ ?_
    field_simp
    ring

end Cert.ReferenceIdeal.Moe
-- ==== Proof.Value.Equation.lean ====
/-
# The kernel's result is the reference's

The kernel adds, for each row, over all 64 experts and with each expert's weight inside the product with its matrix; the reference
adds the two products of the row's own experts, each times its share. The weights are real numbers and not negative, so they come
out of the sums, whatever the experts' matrices hold.
-/
module

public import proofs.«01_k».proof.Proof.Value.Result
public import proofs.«01_k».proof.Proof.Value.Softmax
public import Idealize.ShloMosaic.Lib.LayoutAt
public import Idealize.ShloMosaic.Lib.Pointwise.Sums

@[expose] public section

set_option maxRecDepth 16384

noncomputable section

namespace Cert.KernelIdeal.Moe

open Cert.KernelIdeal Cert.KernelIdeal.Gen Cert.Moe
open Idealize.ShloMosaic

/-- A real factor that is not negative comes out of a sum. -/
theorem pull {n : ℕ} {v : EReal} (h0 : 0 ≤ v) (ht : v ≠ ⊤) (f : Fin n → EReal) : ∑ k, v * f k = v * ∑ k, f k := by
  classical
  have h : ∀ t : Finset (Fin n), ∑ k ∈ t, v * f k = v * ∑ k ∈ t, f k := fun t => by
    induction t using Finset.induction_on with
    | empty => exact (mul_zero v).symm
    | insert a t ha ih => rw [Finset.sum_insert ha, Finset.sum_insert ha, ih, EReal.left_distrib_of_nonneg_of_ne_top h0 ht]
  exact h _

/-- A sum over the experts in which each row of terms has a weight that is `g` at one expert and `g'` at another, both added where
the two are one expert. -/
theorem mix (p q : Fin 64) (g g' : EReal) (hg : 0 ≤ g) (hg' : 0 ≤ g') (ht : g ≠ ⊤) (ht' : g' ≠ ⊤) (x : Fin 512 → EReal) (W : Fin 64 → Fin 512 → EReal) :
    ∑ e : Fin 64, ∑ k : Fin 512, (((if p.val = e.val then g else 0) + (if q.val = e.val then g' else 0)) * x k) * W e k
      = g * (∑ k : Fin 512, x k * W p k) + g' * (∑ k : Fin 512, x k * W q k) := by
  have h : ∀ e : Fin 64, ∑ k : Fin 512, (((if p.val = e.val then g else 0) + (if q.val = e.val then g' else 0)) * x k) * W e k
      = (if p = e then g * (∑ k : Fin 512, x k * W e k) else 0) + (if q = e then g' * (∑ k : Fin 512, x k * W e k) else 0) := fun e => by
    have h0 : ∀ (P : Prop) [Decidable P] (v : EReal), 0 ≤ v → 0 ≤ if P then v else 0 := fun P _ v hv => by split_ifs; exacts [hv, le_rfl]
    have h1 : ∀ (P : Prop) [Decidable P] (v : EReal), v ≠ ⊤ → (if P then v else 0) ≠ ⊤ := fun P _ v hv => by split_ifs; exacts [hv, EReal.zero_ne_top]
    simp only [mul_assoc]
    rw [pull (add_nonneg (h0 _ _ hg) (h0 _ _ hg')) (EReal.add_ne_top (h1 _ _ ht) (h1 _ _ ht')), EReal.right_distrib_of_nonneg (h0 _ _ hg) (h0 _ _ hg'),
      ite_mul, ite_mul, zero_mul]
    simp only [Fin.ext_iff]
  rw [Finset.sum_congr rfl fun e _ => h e, Finset.sum_add_distrib, Finset.sum_ite_eq, Finset.sum_ite_eq, if_pos (Finset.mem_univ _), if_pos (Finset.mem_univ _)]

/-- Row `a` of device `c`'s block is row `256 c + a` of the reference's result. -/
theorem row_own (c : Fin 8) (a : Fin 256) : (row c 0 a).val = 256 * c.val + a.val := by
  show 256 * ((c.val + 0) % 8) + a.val = _
  have := c.isLt
  omega

/-- Where tokens and router are real numbers, every expert's number is below 64 and no chunk sends a device more than 128 rows,
device `c`'s result is block `c` of the reference's. -/
theorem result_eq (I : Dev nD → Ins Ideal) (x : Vec Ideal S2048x512 .f32) (rw : Vec Ideal S512x64 .f32) (idx : Vec Ideal S2048x2 .i32)
    (W : Vec Ideal ⟨3, ![64, 512, 1024]⟩ .f32) (hx : ∀ c, (I c).x = x) (hrw : ∀ c, (I c).rw = rw) (hidx : ∀ c, (I c).idx = idx)
    (hW : ∀ c, (I c).w = Layout.block ⟨3, ![8, 512, 1024]⟩ ⟨3, ![64, 512, 1024]⟩ 0 8 c W)
    (fx : ∀ i, ∃ r : ℝ, x i = (r : EReal)) (frw : ∀ i, ∃ r : ℝ, rw i = (r : EReal)) (hI : InRange idx) (hF : Fits idx) (c : Dev nD) :
    result I c = Layout.block ⟨2, ![256, 1024]⟩ ⟨2, ![2048, 1024]⟩ 0 8 c (Cert.ReferenceIdeal.Moe.out x rw idx W) := by
  funext i
  obtain ⟨a, h, rfl⟩ : ∃ (a : Fin 256) (h : Fin 1024), i = ix2 a h := ⟨i 0, i 1, eq_ix2 i⟩
  have hr : (Layout.block ⟨2, ![256, 1024]⟩ ⟨2, ![2048, 1024]⟩ 0 8 c (Cert.ReferenceIdeal.Moe.out x rw idx W) : _ → _) (ix2 a h)
      = Cert.ReferenceIdeal.Moe.out x rw idx W (ix2 (row c 0 a) h) := by
    have := row_own c a
    rw [Layout.block_apply]
    refine congrArg (Cert.ReferenceIdeal.Moe.out x rw idx W) ?_
    shard_ext
  have h0 : (idx (ix2 (row c 0 a) 0)).toNat < 64 := (hI _).1
  have h1 : (idx (ix2 (row c 0 a) 1)).toNat < 64 := (hI _).2
  rw [hr, result_at I x rw idx hx hrw hidx hI hF c a h, Cert.ReferenceIdeal.Moe.out_at x rw idx W (row c 0 a) h h0 h1]
  obtain ⟨g, hg0, hg1, hl, hd, hd'⟩ := Cert.ReferenceIdeal.Moe.shares x rw fx frw (row c 0 a) ⟨_, h0⟩ ⟨_, h1⟩
  have hgate : gate x rw idx hI (row c 0 a) = (g : EReal) := by
    rw [← hl, Cert.ReferenceIdeal.Moe.scores_at, Cert.ReferenceIdeal.Moe.scores_at]
    rfl
  have hs : (1 : EReal) - (g : EReal) = ((1 - g : ℝ) : EReal) := by rw [← EReal.coe_one, ← EReal.coe_sub]
  rw [hd, hd', ← mix _ _ (g : EReal) (1 - (g : EReal)) (EReal.coe_nonneg.2 hg0) (by rw [hs]; exact EReal.coe_nonneg.2 (by linarith)) (EReal.coe_ne_top _) (by rw [hs]; exact EReal.coe_ne_top _)
    (fun k => x (ix2 (row c 0 a) k)) (fun e k => W (ix3 e k h)), Fin.sum_univ_tiles 8 8 rfl]
  refine Finset.sum_congr rfl fun d _ => Finset.sum_congr rfl fun j _ => Finset.sum_congr rfl fun k _ => ?_
  have hw : (I d).w (ix3 j k h) = W (ix3 ⟨d.val * 8 + j.val, by omega⟩ k h) := by
    rw [hW, Layout.block_apply]
    refine congrArg W ?_
    shard_ext
  rw [hw, weight, hgate, Nat.mul_comm 8]
  rfl

end Cert.KernelIdeal.Moe
-- ==== Proof.Value.Precondition.lean ====
/-
# The precondition, read back

What the precondition's computed answer says: the tokens and the router's matrix are real numbers, every expert's number is
below 64, and no chunk sends more than 128 rows to one device.
-/
module

public import proofs.«01_k».proof.Proof.Value.Result
public import proofs.«01_k».proof.Pre_routable_KernelIdeal
public import proofs.«01_k».proof.Pre_routable_ReferenceIdeal
public import Idealize.ShloMosaic.Lib.IndicatorCount
public import Idealize.ShloMosaic.Lib.ReduceAll
public import Idealize.ShloMosaic.Lib.Pointwise
public import Idealize.ShloMosaic.Lib.StableHlo.Predicate

@[expose] public section

set_option maxRecDepth 16384

noncomputable section

/-- The side conditions of the precondition's operations, at the reference's shapes. -/
instance Cert.Pre_routable_ReferenceIdeal.facts : Cert.Pre_routable_ReferenceIdeal.Facts := by
  constructor <;> decide

namespace Cert.Pre_routable_KernelIdeal

open Idealize.ShloMosaic

/-- The side conditions of the precondition's operations. -/
instance facts : Facts := by
  constructor <;> decide

open Facts

/-- The sign of a word. -/
def sign (w : BitVec 32) : BitVec 32 := if w = 0 then 0 else if w.msb = true then -1 else 1

/-- The comparison of the device that owns an expert, the expert's number divided by 8 and rounded down, with a device's number. -/
def ownerBit (w d : BitVec 32) : BitVec 1 :=
  IntOp.cmpi .eq (Scalar.select (IntOp.andi (IntOp.cmpi .ne (sign w) (sign 8#32)) (IntOp.cmpi .ne (IntOp.remsi .host w 8#32) 0#32))
    (IntOp.subi (IntOp.divsi .host w 8#32) 1#32) (IntOp.divsi .host w 8#32)) d

/-- The comparison, for each of the 64 experts and each of the eight devices. -/
theorem ownerBit_small : ∀ (k : Fin 64) (d : Fin 8), ownerBit (BitVec.ofNat 32 k.val) (BitVec.ofNat 32 d.val) = 1#1 ↔ k.val / 8 = d.val := by
  decide +kernel

/-- For an expert's number below 64 it says whether the device owns the expert. -/
theorem ownerBit_iff (w : BitVec 32) (hw : w.toNat < 64) (d : Fin 8) : ownerBit w (BitVec.ofNat 32 d.val) = 1#1 ↔ w.toNat / 8 = d.val := by
  have h := ownerBit_small ⟨w.toNat, hw⟩ d
  rwa [show BitVec.ofNat 32 (⟨w.toNat, hw⟩ : Fin 64).val = w from (BitVec.ofNat_toNat _ _).trans (BitVec.setWidth_eq w)] at h

/-- Which device owns the expert of each row, from one column of the experts' numbers. -/
def chosen (e : IVec S2048x1 32) : IVec S2048x8 1 :=
  cmpi .eq (broadcastInDim S2048x8 ![0, 1] bcast_S2048x1_S2048x8_0_1 (fn_floor_divide (F := Ideal) e (constantI S_ 32 8#32)))
    (broadcastInDim S2048x8 ![0, 1] bcast_S1x8_S2048x8_0_1 (broadcastInDim S1x8 ![1] bcast_S8_S1x8_1 (iotaInDim S8 32 0)))

/-- Which rows of which chunk go to which device. -/
def sent (idx : IVec S2048x2 32) : IVec S8x256x8 1 :=
  shapeCast S8x256x8 (ori (chosen (extractStridedSlice S2048x1 ![0, 0] idx slices_S2048x2_S2048x1_0_0))
    (chosen (extractStridedSlice S2048x1 ![0, 1] idx slices_S2048x2_S2048x1_0_1))) shapeCasts_S2048x8_S8x256x8

/-- How many rows of a chunk go to a device. -/
def counts (idx : IVec S2048x2 32) : IVec S8x8 32 :=
  Host.reduce IntOp.addi (extui 32 (sent idx) natLt_1_32) (constantI S_ 32 0#32) reducesTo_S8x256x8_S8x8_d1 h_S_

/-- An entry of it is the comparison for the row and the device. -/
theorem chosen_at (e : IVec S2048x1 32) (R : Fin 2048) (d : Fin 8) : chosen e (ix2 R d) = ownerBit (e (ix2 R 0)) (BitVec.ofNat 32 d.val) := by
  pointwise [chosen, fn_floor_divide, fn_where]
  rfl

/-- Row `a` of chunk `n`, among all the rows. -/
def place (n : Fin 8) (a : Fin 256) : Fin 2048 := ⟨n.val * 256 + a.val, by omega⟩

/-- A row of a chunk is sent to the devices that own its two experts. -/
theorem sent_iff (idx : IVec S2048x2 32) (hI : ∀ i, (idx i).toNat < 64) (n : Fin 8) (a : Fin 256) (d : Fin 8) :
    sent idx (ix3 n a d) = 1#1 ↔ Cert.KernelIdeal.Moe.Routed (idx (ix2 (place n a) 0)) (idx (ix2 (place n a) 1)) d.val := by
  have h : sent idx (ix3 n a d) = IntOp.ori (ownerBit (idx (ix2 (place n a) 0)) (BitVec.ofNat 32 d.val)) (ownerBit (idx (ix2 (place n a) 1)) (BitVec.ofNat 32 d.val)) := by
    pointwise [sent]
    rw [chosen_at, chosen_at]
    pointwise
    rfl
  rw [h, IntOp.ori_eq_one, ownerBit_iff _ (hI _), ownerBit_iff _ (hI _)]

/-- The count is the number of rows of the chunk that are sent to the device. -/
theorem counts_at (idx : IVec S2048x2 32) (hI : ∀ i, (idx i).toNat < 64) (n d : Fin 8) :
    counts idx (ix2 n d) = BitVec.ofNat 32 (Cert.Moe.routed fun a : Fin 256 =>
      Cert.KernelIdeal.Moe.Routed (idx (ix2 (place n a) 0)) (idx (ix2 (place n a) 1)) d.val) := by
  have h : counts idx (ix2 n d) = Finset.fold IntOp.addi (0#32) (fun a : Fin 256 => BitVec.setWidth 32 (sent idx (ix3 n a d))) Finset.univ := by
    pointwise [counts]
  rw [h, IndicatorCount.fold_addi_setWidth_eq_card (fun a : Fin 256 => sent idx (ix3 n a d)), Cert.Moe.routed]
  exact congrArg _ (congrArg _ (Finset.filter_congr fun a _ => sent_iff idx hI n a d))

/-- A number whose absolute value is below infinity is real. -/
theorem real_of_below (v : EReal) (h : FloatOps.cmpf (F := Ideal) (φ := .f32) .olt (FloatOps.absf (F := Ideal) (φ := .f32) v) (Ideal.ofBits .f32 0x7F800000#32) = 1#1) : ∃ r : ℝ, v = (r : EReal) := by
  have ht : Ideal.ofBits .f32 0x7F800000#32 = ⊤ := by simp [Ideal.ofBits, Ideal.ieee]
  rw [ht] at h
  have hm : max v (-v) < ⊤ := by
    by_contra hn
    have h0 : FloatOps.cmpf (F := Ideal) (φ := .f32) .olt (FloatOps.absf (F := Ideal) (φ := .f32) v) ⊤ = 0#1 := by
      show BitVec.ofBool (decide (max v (-v) < ⊤)) = 0#1
      rw [decide_eq_false hn]
      rfl
    rw [h0] at h
    exact absurd h (by decide)
  have h2 : -v < ⊤ := (le_max_right _ _).trans_lt hm
  exact ⟨v.toReal, (EReal.coe_toReal ((le_max_left _ _).trans_lt hm).ne (fun hv => by rw [hv] at h2; exact absurd h2 (by simp))).symm⟩

/-- What the answer says. -/
theorem fn_true (x : FVec Ideal S2048x512 .f32) (rw : FVec Ideal S512x64 .f32) (idx : IVec S2048x2 32) (w : FVec Ideal S8x512x1024 .f32)
    (h : fn x rw idx w = fun _ => 1#1) :
    (∀ i, cmpf .olt (Host.absf x) (broadcastInDim S2048x512 ![] bcast_S_S2048x512 (constant S_ .f32 0x7F800000#32)) i = 1#1)
    ∧ (∀ i, cmpf .olt (Host.absf rw) (broadcastInDim S512x64 ![] bcast_S_S512x64 (constant S_ .f32 0x7F800000#32)) i = 1#1)
    ∧ (∀ i, IntOp.cmpi .sge (idx i) 0#32 = 1#1 ∧ IntOp.cmpi .slt (idx i) 64#32 = 1#1)
    ∧ ∀ i, IntOp.cmpi .sle (counts idx i) 128#32 = 1#1 := by
  have hs : Subsingleton S_.Idx := ⟨fun a b => funext fun k => k.elim0⟩
  have h0 := congrFun h (fun k => k.elim0)
  unfold fn fn_part1 fn_part2 at h0
  obtain ⟨h1, h2⟩ := IntOp.andi_eq_one.1 h0
  obtain ⟨h1, h3⟩ := IntOp.andi_eq_one.1 h1
  obtain ⟨h1, h4⟩ := IntOp.andi_eq_one.1 h1
  refine ⟨fun i => Host.reduce_andi_all _ _ _ _ _ h1 i, fun i => Host.reduce_andi_all _ _ _ _ _ h4 i,
    fun i => IntOp.andi_eq_one.1 (Host.reduce_andi_all _ _ _ _ _ h3 i), fun i => Host.reduce_andi_all _ _ _ _ _ h2 i⟩

/-- The precondition, in plain terms. -/
theorem meaning (x : FVec Ideal S2048x512 .f32) (rw : FVec Ideal S512x64 .f32) (idx : IVec S2048x2 32) (w : FVec Ideal S8x512x1024 .f32)
    (h : fn x rw idx w = fun _ => 1#1) :
    (∀ i, ∃ r : ℝ, x i = (r : EReal)) ∧ (∀ i, ∃ r : ℝ, rw i = (r : EReal)) ∧ Cert.KernelIdeal.Moe.InRange idx ∧ Cert.KernelIdeal.Moe.Fits idx := by
  obtain ⟨hx, hrw, hi, hc⟩ := fn_true x rw idx w h
  have hI : ∀ i, (idx i).toNat < 64 := fun i => by
    have h0 := (Scalar.nonneg_iff _).1 (hi i).1
    have h1 := IntOp.cmpi_slt.1 (hi i).2
    rw [StableHlo.Predicate.toInt_eq_toNat_of_lt (by omega)] at h1
    exact Int.ofNat_lt.1 h1
  refine ⟨fun i => real_of_below _ (hx i), fun i => real_of_below _ (hrw i), fun R => ⟨hI _, hI _⟩, fun c r => ?_⟩
  have hle := hc (ix2 ⟨(c.val + r.val) % 8, Nat.mod_lt _ (by decide)⟩ c)
  rw [counts_at idx hI, IntOp.cmpi_sle] at hle
  have hb : ∀ p : Fin 256 → Prop, ∀ _ : DecidablePred p, Cert.Moe.routed p ≤ 256 := fun p _ => (Finset.card_le_univ _).trans (by simp)
  have hp : Cert.Moe.routed (Cert.KernelIdeal.Moe.act idx c r) = Cert.Moe.routed fun a : Fin 256 =>
      Cert.KernelIdeal.Moe.Routed (idx (ix2 (place ⟨(c.val + r.val) % 8, Nat.mod_lt _ (by decide)⟩ a) 0)) (idx (ix2 (place ⟨(c.val + r.val) % 8, Nat.mod_lt _ (by decide)⟩ a) 1)) c.val := by
    refine congrArg Finset.card (Finset.filter_congr fun a _ => ?_)
    have hr : Cert.KernelIdeal.Moe.row c r a = place ⟨(c.val + r.val) % 8, Nat.mod_lt _ (by decide)⟩ a := Fin.ext (by
      show 256 * ((c.val + r.val) % 8) + a.val = (c.val + r.val) % 8 * 256 + a.val
      omega)
    rw [Cert.KernelIdeal.Moe.act, hr]
  rw [hp]
  have := hb (fun a : Fin 256 =>
      Cert.KernelIdeal.Moe.Routed (idx (ix2 (place ⟨(c.val + r.val) % 8, Nat.mod_lt _ (by decide)⟩ a) 0)) (idx (ix2 (place ⟨(c.val + r.val) % 8, Nat.mod_lt _ (by decide)⟩ a) 1)) c.val) inferInstance
  rw [StableHlo.Predicate.toInt_eq_toNat_of_lt (by rw [BitVec.toNat_ofNat]; omega), BitVec.toNat_ofNat] at hle
  have h128 : (128#32 : BitVec 32).toInt = 128 := by decide
  omega

end Cert.Pre_routable_KernelIdeal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Whole
public import proofs.«01_k».proof.Proof.KernelIdeal.Whole
public import proofs.«01_k».proof.Proof.Value.Equation
public import proofs.«01_k».proof.Proof.Value.Precondition
public import Idealize.ShloMosaic.Lib.Claim
public import Idealize.ShloMosaic.Adequacy
public import Idealize.ShloMosaic.Init

@[expose] public section

noncomputable section

namespace Cert.Proof

open Idealize.ShloMosaic Idealize.SL.Sem

/-- The kernel runs, its arguments end unchanged and every semaphore ends at zero. -/
theorem kernel_quiescent : Cert.quiescent_Kernel (hKernel := Cert.Kernel.Gen.facts) := fun m g _ =>
  (θ_run _ _ _).mono (fun _ h => ⟨fun c => (h.1 c).2, h.2⟩) (Cert.Kernel.Moe.run_args m g)

/-- The same of its idealization. -/
theorem ideal_quiescent : Cert.quiescent_KernelIdeal (hKernelIdeal := Cert.KernelIdeal.Gen.facts) := fun m g _ =>
  (θ_run _ _ _).mono (fun _ h => ⟨fun c => (h.1 c).2, h.2⟩) (Cert.KernelIdeal.Moe.run_args m g)

/-- The reference runs, its arguments end unchanged, and it has no semaphore that could be left raised. -/
theorem reference_quiescent : Cert.quiescent_ReferenceIdeal (hReferenceIdeal := Cert.ReferenceIdeal.Gen.facts) := fun m g _ =>
  (θ_run _ _ _).mono (fun r h => ⟨fun c => by rw [Subsingleton.elim c 0]; exact h.2, sem_eq_zero_of_no_sems (by decide) r.2⟩) (Cert.ReferenceIdeal.Moe.run m g)

/-- Under the precondition, and where the two programs hold the same arguments, each device's result is its block of the
reference's result. -/
theorem same_result : Cert.algebraic_KernelIdeal_ReferenceIdeal_pre_routable_KernelIdeal (hKernelIdeal := Cert.KernelIdeal.Gen.facts)
    (hReferenceIdeal := Cert.ReferenceIdeal.Gen.facts) (hPre_routable_KernelIdeal := Cert.Pre_routable_KernelIdeal.facts) := fun m g m' g' hpre hagree => by
  obtain ⟨fx, frw, hI, hF⟩ := Cert.Pre_routable_KernelIdeal.meaning _ _ _ _ (hpre 0)
  rw [(hagree 0).1] at fx
  rw [(hagree 0).2.1] at frw
  rw [(hagree 0).2.2.1] at hI hF
  exact ⟨_, (θ_run _ _ _).mono (fun _ h c => ⟨(h.1 c).1.trans (Cert.KernelIdeal.Moe.result_eq _ _ _ _ _ (fun c => (hagree c).1) (fun c => (hagree c).2.1)
    (fun c => (hagree c).2.2.1) (fun c => (hagree c).2.2.2) fx frw hI hF c), (h.1 c).2⟩) (Cert.KernelIdeal.Moe.run_args m g), Cert.ReferenceIdeal.Moe.run m' g'⟩

/-- The claim. What holds of every run holds of those that start under the precondition. -/
theorem claim : Cert.Claim :=
  ⟨Cert.Kernel.Gen.facts, Cert.KernelIdeal.Gen.facts, Cert.ReferenceIdeal.Gen.facts, Cert.Pre_routable_KernelIdeal.facts, Cert.Pre_routable_ReferenceIdeal.facts,
    kernel_quiescent, ideal_quiescent, fun m g _ => ideal_quiescent m g True.intro, reference_quiescent, fun m g _ => reference_quiescent m g True.intro,
    trivial, same_result⟩

end Cert.Proof

end
